-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_softmax_stats [hPre_softmax_stats : Cert.Pre_softmax_stats.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_softmax_stats.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))).1 = (fun _ => 1#1)
    ∧ (Cert.Pre_softmax_stats.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))).2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_softmax_stats [hPre_softmax_stats : Cert.Pre_softmax_stats.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_softmax_stats.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))).1 = (fun _ => 1#1)
    ∧ (Cert.Pre_softmax_stats.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))).2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Kernel3Ideal_pre_softmax_stats [hKernel3Ideal : Cert.Kernel3Ideal.Facts] [hPre_softmax_stats : Cert.Pre_softmax_stats.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_softmax_stats m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Reference3Ideal_pre_softmax_stats [hReference3Ideal : Cert.Reference3Ideal.Facts] [hPre_softmax_stats : Cert.Pre_softmax_stats.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_softmax_stats m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v28) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal_pre_softmax_stats [hKernel3Ideal : Cert.Kernel3Ideal.Facts] [hReference3Ideal : Cert.Reference3Ideal.Facts] [hPre_softmax_stats : Cert.Pre_softmax_stats.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_softmax_stats m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v68) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v21)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v21) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v64) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v21)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v21) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v64) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_softmax_stats : Cert.Pre_softmax_stats.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_softmax_stats (hKernel3Ideal := hKernel3Ideal) (hPre_softmax_stats := hPre_softmax_stats)
    ∧ quiescent_Reference3Ideal (hReference3Ideal := hReference3Ideal)
    ∧ quiescent_Reference3Ideal_pre_softmax_stats (hReference3Ideal := hReference3Ideal) (hPre_softmax_stats := hPre_softmax_stats)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_softmax_stats (hKernel3Ideal := hKernel3Ideal) (hReference3Ideal := hReference3Ideal) (hPre_softmax_stats := hPre_softmax_stats)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_softmax_stats.lean ====
abbrev S8x4096x1024 : Shape := ⟨3, ![8, 4096, 1024]⟩
abbrev S8x8x4096x128 : Shape := ⟨4, ![8, 8, 4096, 128]⟩
abbrev S8x1x4096x128 : Shape := ⟨4, ![8, 1, 4096, 128]⟩
abbrev S8x2x4096x128 : Shape := ⟨4, ![8, 2, 4096, 128]⟩
abbrev S1x1024x1024 : Shape := ⟨3, ![1, 1024, 1024]⟩
abbrev S2x3x1024 : Shape := ⟨3, ![2, 3, 1024]⟩
abbrev S2x2x1024x5632 : Shape := ⟨4, ![2, 2, 1024, 5632]⟩
abbrev S2x2x2816x1024 : Shape := ⟨4, ![2, 2, 2816, 1024]⟩
abbrev S_ : Shape := ⟨0, ![]⟩
abbrev S8x4096x128 : Shape := ⟨3, ![8, 4096, 128]⟩
abbrev S1x8x4096x128 : Shape := ⟨4, ![1, 8, 4096, 128]⟩
abbrev S3x8x4096x128 : Shape := ⟨4, ![3, 8, 4096, 128]⟩
abbrev S3x8x4096x16 : Shape := ⟨4, ![3, 8, 4096, 16]⟩
abbrev S3x8x4096x8 : Shape := ⟨4, ![3, 8, 4096, 8]⟩

class Facts : Prop where
  reducesTo_S8x1x4096x128_S8x4096x128_d1 : S8x1x4096x128.ReducesTo [1] S8x4096x128
  h_S_ : 0 < S_.numel
  reducesTo_S8x2x4096x128_S8x4096x128_d1 : S8x2x4096x128.ReducesTo [1] S8x4096x128
  bcast_S8x4096x128_S1x8x4096x128_1_2_3 : S8x4096x128.BroadcastsInDim S1x8x4096x128 (![1, 2, 3] : Fin 3 → Fin S1x8x4096x128.rank)
  concatenates_S1x8x4096x128_S1x8x4096x128_S1x8x4096x128_S3x8x4096x128_d0 : Shape.Concatenates [S1x8x4096x128, S1x8x4096x128, S1x8x4096x128] S3x8x4096x128 0
  slices_S3x8x4096x128_S3x8x4096x16_0_0_0_0 : S3x8x4096x128.Slices ![0, 0, 0, 0] S3x8x4096x16
  bcast_S_S3x8x4096x16 : S_.BroadcastsInDim S3x8x4096x16 (![] : Fin 0 → Fin S3x8x4096x16.rank)
  slices_S3x8x4096x16_S3x8x4096x8_0_0_0_8 : S3x8x4096x16.Slices ![0, 0, 0, 8] S3x8x4096x8
  bcast_S_S3x8x4096x8 : S_.BroadcastsInDim S3x8x4096x8 (![] : Fin 0 → Fin S3x8x4096x8.rank)

variable [Facts]

def fn {F : FTy → Type} [FloatOps F] (main_arg0 : FVec F S8x4096x1024 .f32) (main_arg1 : FVec F S8x8x4096x128 .bf16) (main_arg2 : FVec F S8x8x4096x128 .bf16) (main_arg3 : FVec F S8x8x4096x128 .bf16) (main_arg4 : FVec F S8x1x4096x128 .f32) (main_arg5 : FVec F S8x1x4096x128 .f32) (main_arg6 : FVec F S8x2x4096x128 .f32) (main_arg7 : FVec F S1x1024x1024 .f32) (main_arg8 : FVec F S2x3x1024 .f32) (main_arg9 : FVec F S2x2x1024x5632 .f32) (main_arg10 : FVec F S2x2x2816x1024 .f32) : IVec S3x8x4096x16 1 × IVec S3x8x4096x8 1 :=
  let main_cst : FVec F S_ .f32 := constant S_ .f32 0x00000000#32
  let main_v0 : FVec F S8x4096x128 .f32 := (fun x v => Host.reduceAdd x v reducesTo_S8x1x4096x128_S8x4096x128_d1 h_S_) main_arg4 main_cst
  let main_cst_0 : FVec F S_ .f32 := constant S_ .f32 0x00000000#32
  let main_v1 : FVec F S8x4096x128 .f32 := (fun x v => Host.reduceAdd x v reducesTo_S8x1x4096x128_S8x4096x128_d1 h_S_) main_arg5 main_cst_0
  let main_cst_1 : FVec F S_ .f32 := constant S_ .f32 0x00000000#32
  let main_v2 : FVec F S8x4096x128 .f32 := (fun x v => Host.reduceAdd x v reducesTo_S8x2x4096x128_S8x4096x128_d1 h_S_) main_arg6 main_cst_1
  let main_v3 : FVec F S1x8x4096x128 .f32 := broadcastInDim S1x8x4096x128 ![1, 2, 3] bcast_S8x4096x128_S1x8x4096x128_1_2_3 main_v0
  let main_v4 : FVec F S1x8x4096x128 .f32 := broadcastInDim S1x8x4096x128 ![1, 2, 3] bcast_S8x4096x128_S1x8x4096x128_1_2_3 main_v1
  let main_v5 : FVec F S1x8x4096x128 .f32 := broadcastInDim S1x8x4096x128 ![1, 2, 3] bcast_S8x4096x128_S1x8x4096x128_1_2_3 main_v2
  let main_v6 : FVec F S3x8x4096x128 .f32 := concatenate S3x8x4096x128 0 [⟨S1x8x4096x128, main_v3⟩, ⟨S1x8x4096x128, main_v4⟩, ⟨S1x8x4096x128, main_v5⟩] concatenates_S1x8x4096x128_S1x8x4096x128_S1x8x4096x128_S3x8x4096x128_d0
  let main_v7 : FVec F S3x8x4096x16 .f32 := (extractStridedSlice S3x8x4096x16 ![0, 0, 0, 0] · slices_S3x8x4096x128_S3x8x4096x16_0_0_0_0) main_v6
  let main_cst_2 : FVec F S_ .f32 := constant S_ .f32 0xFF800000#32
  let main_v8 : FVec F S3x8x4096x16 .f32 := broadcastInDim S3x8x4096x16 ![] bcast_S_S3x8x4096x16 main_cst_2
  let main_v9 : IVec S3x8x4096x16 1 := cmpf .ogt main_v7 main_v8
  let main_cst_3 : FVec F S_ .f32 := constant S_ .f32 0x7F800000#32
  let main_v10 : FVec F S3x8x4096x16 .f32 := broadcastInDim S3x8x4096x16 ![] bcast_S_S3x8x4096x16 main_cst_3
  let main_v11 : IVec S3x8x4096x16 1 := cmpf .olt main_v7 main_v10
  let main_v12 : IVec S3x8x4096x16 1 := andi main_v9 main_v11
  let main_v13 : FVec F S3x8x4096x8 .f32 := (extractStridedSlice S3x8x4096x8 ![0, 0, 0, 8] · slices_S3x8x4096x16_S3x8x4096x8_0_0_0_8) main_v7
  let main_cst_4 : FVec F S_ .f32 := constant S_ .f32 0x00000000#32
  let main_v14 : FVec F S3x8x4096x8 .f32 := broadcastInDim S3x8x4096x8 ![] bcast_S_S3x8x4096x8 main_cst_4
  let main_v15 : IVec S3x8x4096x8 1 := cmpf .ogt main_v13 main_v14
  (main_v12, main_v15)
-- ==== Kernel.lean ====
abbrev S8x3x8x1x4096x128 : Shape := ⟨6, ![8, 3, 8, 1, 4096, 128]⟩
abbrev S8x8x4096x128 : Shape := ⟨4, ![8, 8, 4096, 128]⟩
abbrev S8x1x4096x128 : Shape := ⟨4, ![8, 1, 4096, 128]⟩
abbrev S1x1x8x1x2048x128 : Shape := ⟨6, ![1, 1, 8, 1, 2048, 128]⟩
abbrev S1x1x8x1x128x128 : Shape := ⟨6, ![1, 1, 8, 1, 128, 128]⟩
abbrev S1x8x2048x128 : Shape := ⟨4, ![1, 8, 2048, 128]⟩
abbrev S1x1x2048x128 : Shape := ⟨4, ![1, 1, 2048, 128]⟩
abbrev S128x256 : Shape := ⟨2, ![128, 256]⟩
abbrev S128x128 : Shape := ⟨2, ![128, 128]⟩
abbrev S256x128 : Shape := ⟨2, ![256, 128]⟩
abbrev S1x1x1x1x128x128 : Shape := ⟨6, ![1, 1, 1, 1, 128, 128]⟩
abbrev S128 : Shape := ⟨1, ![128]⟩
abbrev S128x1 : Shape := ⟨2, ![128, 1]⟩
abbrev S256x256 : Shape := ⟨2, ![256, 256]⟩
abbrev S1x1x128x128 : Shape := ⟨4, ![1, 1, 128, 128]⟩
abbrev S1x1x1x1x256x128 : Shape := ⟨6, ![1, 1, 1, 1, 256, 128]⟩

abbrev nBuf : Space → Nat
  | .hbm => 3
  | .vmem => 14
  | .smem => 0
  | _ => 0

abbrev bufTy : (tb : Table) → Fin (tcTables nBuf tb) → BufTy
  | .hbm, ⟨0, _⟩ => ⟨S8x3x8x1x4096x128, .bf16⟩
  | .hbm, ⟨1, _⟩ => ⟨S8x8x4096x128, .bf16⟩
  | .hbm, ⟨2, _⟩ => ⟨S8x1x4096x128, .f32⟩
  | .local _ .vmem, ⟨0, _⟩ => ⟨S1x1x8x1x2048x128, .bf16⟩
  | .local _ .vmem, ⟨1, _⟩ => ⟨S1x1x8x1x2048x128, .bf16⟩
  | .local _ .vmem, ⟨2, _⟩ => ⟨S1x1x8x1x2048x128, .bf16⟩
  | .local _ .vmem, ⟨3, _⟩ => ⟨S1x1x8x1x2048x128, .bf16⟩
  | .local _ .vmem, ⟨4, _⟩ => ⟨S1x1x8x1x2048x128, .bf16⟩
  | .local _ .vmem, ⟨5, _⟩ => ⟨S1x1x8x1x2048x128, .bf16⟩
  | .local _ .vmem, ⟨6, _⟩ => ⟨S1x1x8x1x128x128, .bf16⟩
  | .local _ .vmem, ⟨7, _⟩ => ⟨S1x1x8x1x128x128, .bf16⟩
  | .local _ .vmem, ⟨8, _⟩ => ⟨S1x1x8x1x128x128, .bf16⟩
  | .local _ .vmem, ⟨9, _⟩ => ⟨S1x1x8x1x128x128, .bf16⟩
  | .local _ .vmem, ⟨10, _⟩ => ⟨S1x8x2048x128, .bf16⟩
  | .local _ .vmem, ⟨11, _⟩ => ⟨S1x8x2048x128, .bf16⟩
  | .local _ .vmem, ⟨12, _⟩ => ⟨S1x1x2048x128, .f32⟩
  | .local _ .vmem, ⟨13, _⟩ => ⟨S1x1x2048x128, .f32⟩
  | _, _ => ⟨S8x3x8x1x4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, arg2.toNat, c0_i32_0.toNat, arg1.toNat, c0_i32_1.toNat]

def cc0_transform_1 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![arg0.toNat, c1_i32.toNat, arg2.toNat, c0_i32.toNat, arg1.toNat, c0_i32_0.toNat]

def cc0_transform_2 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  let c0_i32_1 : BitVec 32 := 0#32
  ![arg0.toNat, c2_i32.toNat, arg2.toNat, c0_i32.toNat, arg1.toNat, c0_i32_0.toNat]

def cc0_transform_3 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  let c0_i32_2 : BitVec 32 := 0#32
  let c0_i32_3 : BitVec 32 := 0#32
  ![arg0.toNat, c1_i32_0.toNat, arg2.toNat, c0_i32_1.toNat, v2.toNat, c0_i32_2.toNat]

def cc0_transform_4 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  let c0_i32_1 : BitVec 32 := 0#32
  let c0_i32_2 : BitVec 32 := 0#32
  ![arg0.toNat, c2_i32.toNat, arg2.toNat, c0_i32_0.toNat, v2.toNat, c0_i32_1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage0_0 : Fin 2 → Memref sig .tc .vmem S1x1x8x1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x8x1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x8x1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x8x1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x8x1x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x8x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S8x3x8x1x4096x128 : Shape := ⟨6, ![8, 3, 8, 1, 4096, 128]⟩
abbrev S8x1x8x1x4096x128 : Shape := ⟨6, ![8, 1, 8, 1, 4096, 128]⟩
abbrev S8x8x4096x128 : Shape := ⟨4, ![8, 8, 4096, 128]⟩
abbrev S8x8x32x128x128 : Shape := ⟨5, ![8, 8, 32, 128, 128]⟩
abbrev S8x8x1x128x128 : Shape := ⟨5, ![8, 8, 1, 128, 128]⟩
abbrev S_ : Shape := ⟨0, ![]⟩
abbrev S8x8x31x128x128 : Shape := ⟨5, ![8, 8, 31, 128, 128]⟩
abbrev S8x8x32x256x128 : Shape := ⟨5, ![8, 8, 32, 256, 128]⟩
abbrev S8x8x32x128x256 : Shape := ⟨5, ![8, 8, 32, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S1x1x32x128x256 : Shape := ⟨5, ![1, 1, 32, 128, 256]⟩
abbrev S8x8x32x128 : Shape := ⟨4, ![8, 8, 32, 128]⟩
abbrev S8x8x32x128x1 : Shape := ⟨5, ![8, 8, 32, 128, 1]⟩
abbrev S8x8x4096 : Shape := ⟨3, ![8, 8, 4096]⟩
abbrev S8x4096x8 : Shape := ⟨3, ![8, 4096, 8]⟩
abbrev S8x4096x112 : Shape := ⟨3, ![8, 4096, 112]⟩
abbrev S8x4096x128 : Shape := ⟨3, ![8, 4096, 128]⟩
abbrev S8x1x4096x128 : Shape := ⟨4, ![8, 1, 4096, 128]⟩

abbrev nBuf : Space → Nat
  | .hbm => 88
  | .vmem => 0
  | .smem => 0
  | _ => 0

abbrev bufTy : (tb : Table) → Fin (tcTables nBuf tb) → BufTy
  | .hbm, ⟨0, _⟩ => ⟨S8x3x8x1x4096x128, .bf16⟩
  | .hbm, ⟨1, _⟩ => ⟨S8x1x8x1x4096x128, .bf16⟩
  | .hbm, ⟨2, _⟩ => ⟨S8x8x4096x128, .bf16⟩
  | .hbm, ⟨3, _⟩ => ⟨S8x8x4096x128, .f32⟩
  | .hbm, ⟨4, _⟩ => ⟨S8x8x32x128x128, .f32⟩
  | .hbm, ⟨5, _⟩ => ⟨S8x1x8x1x4096x128, .bf16⟩
  | .hbm, ⟨6, _⟩ => ⟨S8x8x4096x128, .bf16⟩
  | .hbm, ⟨7, _⟩ => ⟨S8x8x4096x128, .f32⟩
  | .hbm, ⟨8, _⟩ => ⟨S8x8x32x128x128, .f32⟩
  | .hbm, ⟨9, _⟩ => ⟨S8x1x8x1x4096x128, .bf16⟩
  | .hbm, ⟨10, _⟩ => ⟨S8x8x4096x128, .bf16⟩
  | .hbm, ⟨11, _⟩ => ⟨S8x8x4096x128, .f32⟩
  | .hbm, ⟨12, _⟩ => ⟨S8x8x32x128x128, .f32⟩
  | .hbm, ⟨13, _⟩ => ⟨S8x8x1x128x128, .f32⟩
  | .hbm, ⟨14, _⟩ => ⟨S_, .f32⟩
  | .hbm, ⟨15, _⟩ => ⟨S8x8x1x128x128, .f32⟩
  | .hbm, ⟨16, _⟩ => ⟨S8x8x31x128x128, .f32⟩
  | .hbm, ⟨17, _⟩ => ⟨S8x8x32x128x128, .f32⟩
  | .hbm, ⟨18, _⟩ => ⟨S8x8x32x256x128, .f32⟩
  | .hbm, ⟨19, _⟩ => ⟨S8x8x1x128x128, .f32⟩
  | .hbm, ⟨20, _⟩ => ⟨S_, .f32⟩
  | .hbm, ⟨21, _⟩ => ⟨S8x8x1x128x128, .f32⟩
  | .hbm, ⟨22, _⟩ => ⟨S8x8x31x128x128, .f32⟩
  | .hbm, ⟨23, _⟩ => ⟨S8x8x32x128x128, .f32⟩
  | .hbm, ⟨24, _⟩ => ⟨S8x8x32x256x128, .f32⟩
  | .hbm, ⟨25, _⟩ => ⟨S8x8x32x128x256, .f32⟩
  | .hbm, ⟨26, _⟩ => ⟨S128, .i32⟩
  | .hbm, ⟨27, _⟩ => ⟨S128x1, .i32⟩
  | .hbm, ⟨28, _⟩ => ⟨S256, .i32⟩
  | .hbm, ⟨29, _⟩ => ⟨S1x256, .i32⟩
  | .hbm, ⟨30, _⟩ => ⟨S_, .i32⟩
  | .hbm, ⟨31, _⟩ => ⟨S128x1, .i32⟩
  | .hbm, ⟨32, _⟩ => ⟨S128x1, .i32⟩
  | .hbm, ⟨33, _⟩ => ⟨S128x256, .i32⟩
  | .hbm, ⟨34, _⟩ => ⟨S128x256, .i32⟩
  | .hbm, ⟨35, _⟩ => ⟨S128x256, .i32⟩
  | .hbm, ⟨36, _⟩ => ⟨S_, .i32⟩
  | .hbm, ⟨37, _⟩ => ⟨S128x256, .i32⟩
  | .hbm, ⟨38, _⟩ => ⟨S128x256, .i1⟩
  | .hbm, ⟨39, _⟩ => ⟨S_, .i32⟩
  | .hbm, ⟨40, _⟩ => ⟨S128x256, .i32⟩
  | .hbm, ⟨41, _⟩ => ⟨S128x256, .i1⟩
  | .hbm, ⟨42, _⟩ => ⟨S128x256, .i1⟩
  | .hbm, ⟨43, _⟩ => ⟨S32, .i32⟩
  | .hbm, ⟨44, _⟩ => ⟨S32x1x1, .i32⟩
  | .hbm, ⟨45, _⟩ => ⟨S_, .i32⟩
  | .hbm, ⟨46, _⟩ => ⟨S32x1x1, .i32⟩
  | .hbm, ⟨47, _⟩ => ⟨S32x1x1, .i32⟩
  | .hbm, ⟨48, _⟩ => ⟨S_, .i32⟩
  | .hbm, ⟨49, _⟩ => ⟨S32x1x1, .i32⟩
  | .hbm, ⟨50, _⟩ => ⟨S32x1x1, .i32⟩
  | .hbm, ⟨51, _⟩ => ⟨S1x1x256, .i32⟩
  | .hbm, ⟨52, _⟩ => ⟨S32x1x256, .i32⟩
  | .hbm, ⟨53, _⟩ => ⟨S32x1x256, .i32⟩
  | .hbm, ⟨54, _⟩ => ⟨S32x1x256, .i32⟩
  | .hbm, ⟨55, _⟩ => ⟨S1x128x256, .i1⟩
  | .hbm, ⟨56, _⟩ => ⟨S_, .i32⟩
  | .hbm, ⟨57, _⟩ => ⟨S32x1x256, .i32⟩
  | .hbm, ⟨58, _⟩ => ⟨S32x1x256, .i1⟩
  | .hbm, ⟨59, _⟩ => ⟨S32x128x256, .i1⟩
  | .hbm, ⟨60, _⟩ => ⟨S32x128x256, .i1⟩
  | .hbm, ⟨61, _⟩ => ⟨S32x128x256, .i1⟩
  | .hbm, ⟨62, _⟩ => ⟨S1x1x32x128x256, .i1⟩
  | .hbm, ⟨63, _⟩ => ⟨S_, .f32⟩
  | .hbm, ⟨64, _⟩ => ⟨S_, .f32⟩
  | .hbm, ⟨65, _⟩ => ⟨S8x8x32x128x256, .i1⟩
  | .hbm, ⟨66, _⟩ => ⟨S8x8x32x128x256, .f32⟩
  | .hbm, ⟨67, _⟩ => ⟨S8x8x32x128x256, .f32⟩
  | .hbm, ⟨68, _⟩ => ⟨S_, .f32⟩
  | .hbm, ⟨69, _⟩ => ⟨S8x8x32x128, .f32⟩
  | .hbm, ⟨70, _⟩ => ⟨S8x8x32x128x1, .f32⟩
  | .hbm, ⟨71, _⟩ => ⟨S8x8x32x128x256, .f32⟩
  | .hbm, ⟨72, _⟩ => ⟨S8x8x32x128x256, .f32⟩
  | .hbm, ⟨73, _⟩ => ⟨S8x8x32x128x256, .f32⟩
  | .hbm, ⟨74, _⟩ => ⟨S_, .f32⟩
  | .hbm, ⟨75, _⟩ => ⟨S8x8x32x128, .f32⟩
  | .hbm, ⟨76, _⟩ => ⟨S8x8x32x128x1, .f32⟩
  | .hbm, ⟨77, _⟩ => ⟨S8x8x32x128x128, .f32⟩
  | .hbm, ⟨78, _⟩ => ⟨S8x8x4096, .f32⟩
  | .hbm, ⟨79, _⟩ => ⟨S8x4096x8, .f32⟩
  | .hbm, ⟨80, _⟩ => ⟨S8x8x4096, .f32⟩
  | .hbm, ⟨81, _⟩ => ⟨S8x4096x8, .f32⟩
  | .hbm, ⟨82, _⟩ => ⟨S_, .f32⟩
  | .hbm, ⟨83, _⟩ => ⟨S8x4096x112, .f32⟩
  | .hbm, ⟨84, _⟩ => ⟨S8x4096x128, .f32⟩
  | .hbm, ⟨85, _⟩ => ⟨S8x8x4096x128, .f32⟩
  | .hbm, ⟨86, _⟩ => ⟨S8x8x4096x128, .bf16⟩
  | .hbm, ⟨87, _⟩ => ⟨S8x1x4096x128, .f32⟩
  | _, _ => ⟨S8x3x8x1x4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_cst : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_cst_0 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_c : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_c_1 : Ref sig .tc := ⟨.hbm, 36, rfl⟩
abbrev main_v32 : Ref sig .tc := ⟨.hbm, 37, rfl⟩
abbrev main_v33 : Ref sig .tc := ⟨.hbm, 38, rfl⟩
abbrev main_c_2 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_c_3 : Ref sig .tc := ⟨.hbm, 45, rfl⟩
abbrev main_v39 : Ref sig .tc := ⟨.hbm, 46, rfl⟩
abbrev main_v40 : Ref sig .tc := ⟨.hbm, 47, rfl⟩
abbrev main_c_4 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_c_5 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_cst_6 : Ref sig .tc := ⟨.hbm, 63, rfl⟩
abbrev main_call0_v0 : Ref sig .tc := ⟨.hbm, 64, rfl⟩
abbrev main_call0_v1 : Ref sig .tc := ⟨.hbm, 65, rfl⟩
abbrev main_call0_v2 : Ref sig .tc := ⟨.hbm, 66, rfl⟩
abbrev main_v54 : Ref sig .tc := ⟨.hbm, 67, rfl⟩
abbrev main_cst_7 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_8 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_cst_9 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩

abbrev nD : Nat := 1
abbrev τ : Topo := Topo.v7x

variable {F : FTy → Type} [FloatOps F]
-- ==== Kernel2.lean ====
abbrev S8x4096x1024 : Shape := ⟨3, ![8, 4096, 1024]⟩
abbrev S2x3x1024 : Shape := ⟨3, ![2, 3, 1024]⟩
abbrev S2x2x1024x5632 : Shape := ⟨4, ![2, 2, 1024, 5632]⟩
abbrev S2x2x2816x1024 : Shape := ⟨4, ![2, 2, 2816, 1024]⟩
abbrev S32768x1024 : Shape := ⟨2, ![32768, 1024]⟩
abbrev S1x1x1024 : Shape := ⟨3, ![1, 1, 1024]⟩
abbrev S1024 : Shape := ⟨1, ![1024]⟩
abbrev S1x1024 : Shape := ⟨2, ![1, 1024]⟩
abbrev S1024x1024 : Shape := ⟨2, ![1024, 1024]⟩
abbrev S1x1x1024x5632 : Shape := ⟨4, ![1, 1, 1024, 5632]⟩
abbrev S1x1x2816x1024 : Shape := ⟨4, ![1, 1, 2816, 1024]⟩
abbrev S1024x1 : Shape := ⟨2, ![1024, 1]⟩
abbrev S1x1x1024x256 : Shape := ⟨4, ![1, 1, 1024, 256]⟩
abbrev S1024x256 : Shape := ⟨2, ![1024, 256]⟩
abbrev S1x1x256x1024 : Shape := ⟨4, ![1, 1, 256, 1024]⟩
abbrev S256x1024 : Shape := ⟨2, ![256, 1024]⟩

abbrev nBuf : Space → Nat
  | .hbm => 11
  | .vmem => 8
  | .smem => 0
  | _ => 0

abbrev bufTy : (tb : Table) → Fin (tcTables nBuf tb) → BufTy
  | .hbm, ⟨0, _⟩ => ⟨S8x4096x1024, .f32⟩
  | .hbm, ⟨1, _⟩ => ⟨S2x3x1024, .f32⟩
  | .hbm, ⟨2, _⟩ => ⟨S2x2x1024x5632, .f32⟩
  | .hbm, ⟨3, _⟩ => ⟨S2x2x2816x1024, .f32⟩
  | .hbm, ⟨4, _⟩ => ⟨S32768x1024, .f32⟩
  | .hbm, ⟨5, _⟩ => ⟨S1x1x1024, .f32⟩
  | .hbm, ⟨6, _⟩ => ⟨S1024, .f32⟩
  | .hbm, ⟨7, _⟩ => ⟨S2x2x1024x5632, .bf16⟩
  | .hbm, ⟨8, _⟩ => ⟨S2x2x2816x1024, .bf16⟩
  | .hbm, ⟨9, _⟩ => ⟨S1x1024, .f32⟩
  | .hbm, ⟨10, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024x5632, .bf16⟩
  | .local _ .vmem, ⟨4, _⟩ => ⟨S1x1x2816x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S8x4096x1024 : Shape := ⟨3, ![8, 4096, 1024]⟩
abbrev S2x3x1024 : Shape := ⟨3, ![2, 3, 1024]⟩
abbrev S2x2x1024x5632 : Shape := ⟨4, ![2, 2, 1024, 5632]⟩
abbrev S2x2x2816x1024 : Shape := ⟨4, ![2, 2, 2816, 1024]⟩
abbrev S1x1x1024 : Shape := ⟨3, ![1, 1, 1024]⟩
abbrev S1024 : Shape := ⟨1, ![1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S_ : Shape := ⟨0, ![]⟩
abbrev S8x4096 : Shape := ⟨2, ![8, 4096]⟩
abbrev S8x4096x1 : Shape := ⟨3, ![8, 4096, 1]⟩
abbrev S8x4096x5632 : Shape := ⟨3, ![8, 4096, 5632]⟩
abbrev S8x4096x2816 : Shape := ⟨3, ![8, 4096, 2816]⟩
abbrev S32768x1024 : Shape := ⟨2, ![32768, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S2x3x1024, .f32⟩
  | .hbm, ⟨2, _⟩ => ⟨S2x2x1024x5632, .f32⟩
  | .hbm, ⟨3, _⟩ => ⟨S2x2x2816x1024, .f32⟩
  | .hbm, ⟨4, _⟩ => ⟨S1x1x1024, .f32⟩
  | .hbm, ⟨5, _⟩ => ⟨S1024, .f32⟩
  | .hbm, ⟨6, _⟩ => ⟨S1x1x1024x5632, .f32⟩
  | .hbm, ⟨7, _⟩ => ⟨S1024x5632, .f32⟩
  | .hbm, ⟨8, _⟩ => ⟨S1x1x2816x1024, .f32⟩
  | .hbm, ⟨9, _⟩ => ⟨S2816x1024, .f32⟩
  | .hbm, ⟨10, _⟩ => ⟨S8x4096x1024, .f32⟩
  | .hbm, ⟨11, _⟩ => ⟨S_, .f32⟩
  | .hbm, ⟨12, _⟩ => ⟨S8x4096, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S_, .f32⟩
  | .hbm, ⟨18, _⟩ => ⟨S8x4096x1, .f32⟩
  | .hbm, ⟨19, _⟩ => ⟨S8x4096x1, .f32⟩
  | .hbm, ⟨20, _⟩ => ⟨S8x4096x1, .f32⟩
  | .hbm, ⟨21, _⟩ => ⟨S8x4096x1024, .f32⟩
  | .hbm, ⟨22, _⟩ => ⟨S8x4096x1024, .f32⟩
  | .hbm, ⟨23, _⟩ => ⟨S1x1x1024, .f32⟩
  | .hbm, ⟨24, _⟩ => ⟨S8x4096x1024, .f32⟩
  | .hbm, ⟨25, _⟩ => ⟨S8x4096x1024, .f32⟩
  | .hbm, ⟨26, _⟩ => ⟨S8x4096x5632, .f32⟩
  | .hbm, ⟨27, _⟩ => ⟨S8x4096x2816, .f32⟩
  | .hbm, ⟨28, _⟩ => ⟨S8x4096x2816, .f32⟩
  | .hbm, ⟨29, _⟩ => ⟨S8x4096x2816, .f32⟩
  | .hbm, ⟨30, _⟩ => ⟨S8x4096x2816, .f32⟩
  | .hbm, ⟨31, _⟩ => ⟨S_, .f32⟩
  | .hbm, ⟨32, _⟩ => ⟨S8x4096x2816, .f32⟩
  | .hbm, ⟨33, _⟩ => ⟨S8x4096x2816, .f32⟩
  | .hbm, ⟨34, _⟩ => ⟨S_, .f32⟩
  | .hbm, ⟨35, _⟩ => ⟨S8x4096x2816, .f32⟩
  | .hbm, ⟨36, _⟩ => ⟨S8x4096x2816, .f32⟩
  | .hbm, ⟨37, _⟩ => ⟨S8x4096x2816, .f32⟩
  | .hbm, ⟨38, _⟩ => ⟨S8x4096x2816, .f32⟩
  | .hbm, ⟨39, _⟩ => ⟨S8x4096x1024, .f32⟩
  | .hbm, ⟨40, _⟩ => ⟨S_, .f32⟩
  | .hbm, ⟨41, _⟩ => ⟨S8x4096x1024, .f32⟩
  | .hbm, ⟨42, _⟩ => ⟨S8x4096x1024, .f32⟩
  | .hbm, ⟨43, _⟩ => ⟨S8x4096x1024, .f32⟩
  | .hbm, ⟨44, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x8x4096x128 : Shape := ⟨4, ![8, 8, 4096, 128]⟩
abbrev S8x1x4096x128 : Shape := ⟨4, ![8, 1, 4096, 128]⟩
abbrev S8x2x4096x128 : Shape := ⟨4, ![8, 2, 4096, 128]⟩
abbrev S1x1024x1024 : Shape := ⟨3, ![1, 1024, 1024]⟩
abbrev S2x3x1024 : Shape := ⟨3, ![2, 3, 1024]⟩
abbrev S2x2x1024x5632 : Shape := ⟨4, ![2, 2, 1024, 5632]⟩
abbrev S2x2x2816x1024 : Shape := ⟨4, ![2, 2, 2816, 1024]⟩
abbrev S32768x1024 : Shape := ⟨2, ![32768, 1024]⟩
abbrev S1024x1024 : Shape := ⟨2, ![1024, 1024]⟩
abbrev S1x1x1024 : Shape := ⟨3, ![1, 1, 1024]⟩
abbrev S1024 : Shape := ⟨1, ![1024]⟩
abbrev S1x1024 : Shape := ⟨2, ![1, 1024]⟩
abbrev S512x1024 : Shape := ⟨2, ![512, 1024]⟩
abbrev S1x8x512x128 : Shape := ⟨4, ![1, 8, 512, 128]⟩
abbrev S1x1x512x128 : Shape := ⟨4, ![1, 1, 512, 128]⟩
abbrev S1x2x512x128 : Shape := ⟨4, ![1, 2, 512, 128]⟩
abbrev S1x1x1024x5632 : Shape := ⟨4, ![1, 1, 1024, 5632]⟩
abbrev S1x1x2816x1024 : Shape := ⟨4, ![1, 1, 2816, 1024]⟩
abbrev S512x128 : Shape := ⟨2, ![512, 128]⟩
abbrev S128x1024 : Shape := ⟨2, ![128, 1024]⟩
abbrev S512 : Shape := ⟨1, ![512]⟩
abbrev S512x1 : Shape := ⟨2, ![512, 1]⟩
abbrev S1x1x1024x256 : Shape := ⟨4, ![1, 1, 1024, 256]⟩
abbrev S1024x256 : Shape := ⟨2, ![1024, 256]⟩
abbrev S512x256 : Shape := ⟨2, ![512, 256]⟩
abbrev S1x1x256x1024 : Shape := ⟨4, ![1, 1, 256, 1024]⟩
abbrev S256x1024 : Shape := ⟨2, ![256, 1024]⟩

abbrev nBuf : Space → Nat
  | .hbm => 20
  | .vmem => 21
  | .smem => 0
  | _ => 0

abbrev bufTy : (tb : Table) → Fin (tcTables nBuf tb) → BufTy
  | .hbm, ⟨0, _⟩ => ⟨S8x4096x1024, .f32⟩
  | .hbm, ⟨1, _⟩ => ⟨S8x8x4096x128, .bf16⟩
  | .hbm, ⟨2, _⟩ => ⟨S8x8x4096x128, .bf16⟩
  | .hbm, ⟨3, _⟩ => ⟨S8x8x4096x128, .bf16⟩
  | .hbm, ⟨4, _⟩ => ⟨S8x1x4096x128, .f32⟩
  | .hbm, ⟨5, _⟩ => ⟨S8x1x4096x128, .f32⟩
  | .hbm, ⟨6, _⟩ => ⟨S8x2x4096x128, .f32⟩
  | .hbm, ⟨7, _⟩ => ⟨S1x1024x1024, .f32⟩
  | .hbm, ⟨8, _⟩ => ⟨S2x3x1024, .f32⟩
  | .hbm, ⟨9, _⟩ => ⟨S2x2x1024x5632, .f32⟩
  | .hbm, ⟨10, _⟩ => ⟨S2x2x2816x1024, .f32⟩
  | .hbm, ⟨11, _⟩ => ⟨S32768x1024, .f32⟩
  | .hbm, ⟨12, _⟩ => ⟨S1024x1024, .f32⟩
  | .hbm, ⟨13, _⟩ => ⟨S1x1x1024, .f32⟩
  | .hbm, ⟨14, _⟩ => ⟨S1024, .f32⟩
  | .hbm, ⟨15, _⟩ => ⟨S2x2x1024x5632, .bf16⟩
  | .hbm, ⟨16, _⟩ => ⟨S2x2x2816x1024, .bf16⟩
  | .hbm, ⟨17, _⟩ => ⟨S1024x1024, .bf16⟩
  | .hbm, ⟨18, _⟩ => ⟨S1x1024, .f32⟩
  | .hbm, ⟨19, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x8x512x128, .bf16⟩
  | .local _ .vmem, ⟨3, _⟩ => ⟨S1x8x512x128, .bf16⟩
  | .local _ .vmem, ⟨4, _⟩ => ⟨S1x8x512x128, .bf16⟩
  | .local _ .vmem, ⟨5, _⟩ => ⟨S1x8x512x128, .bf16⟩
  | .local _ .vmem, ⟨6, _⟩ => ⟨S1x8x512x128, .bf16⟩
  | .local _ .vmem, ⟨7, _⟩ => ⟨S1x8x512x128, .bf16⟩
  | .local _ .vmem, ⟨8, _⟩ => ⟨S1x1x512x128, .f32⟩
  | .local _ .vmem, ⟨9, _⟩ => ⟨S1x1x512x128, .f32⟩
  | .local _ .vmem, ⟨10, _⟩ => ⟨S1x1x512x128, .f32⟩
  | .local _ .vmem, ⟨11, _⟩ => ⟨S1x1x512x128, .f32⟩
  | .local _ .vmem, ⟨12, _⟩ => ⟨S1x2x512x128, .f32⟩
  | .local _ .vmem, ⟨13, _⟩ => ⟨S1x2x512x128, .f32⟩
  | .local _ .vmem, ⟨14, _⟩ => ⟨S1024x1024, .bf16⟩
  | .local _ .vmem, ⟨15, _⟩ => ⟨S1x1024, .f32⟩
  | .local _ .vmem, ⟨16, _⟩ => ⟨S1x1x1024x5632, .bf16⟩
  | .local _ .vmem, ⟨17, _⟩ => ⟨S1x1x2816x1024, .bf16⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_2 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_3 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_4 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_5 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_6 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_10 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1x1024x5632 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1x2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S8x4096x1024 : Shape := ⟨3, ![8, 4096, 1024]⟩
abbrev S8x8x4096x128 : Shape := ⟨4, ![8, 8, 4096, 128]⟩
abbrev S8x1x4096x128 : Shape := ⟨4, ![8, 1, 4096, 128]⟩
abbrev S8x2x4096x128 : Shape := ⟨4, ![8, 2, 4096, 128]⟩
abbrev S1x1024x1024 : Shape := ⟨3, ![1, 1024, 1024]⟩
abbrev S2x3x1024 : Shape := ⟨3, ![2, 3, 1024]⟩
abbrev S2x2x1024x5632 : Shape := ⟨4, ![2, 2, 1024, 5632]⟩
abbrev S2x2x2816x1024 : Shape := ⟨4, ![2, 2, 2816, 1024]⟩
abbrev S_ : Shape := ⟨0, ![]⟩
abbrev S8x4096x128 : Shape := ⟨3, ![8, 4096, 128]⟩
abbrev S1x8x4096x128 : Shape := ⟨4, ![1, 8, 4096, 128]⟩
abbrev S3x8x4096x128 : Shape := ⟨4, ![3, 8, 4096, 128]⟩
abbrev S3x8x4096x8 : Shape := ⟨4, ![3, 8, 4096, 8]⟩
abbrev S8x4096x8x128 : Shape := ⟨4, ![8, 4096, 8, 128]⟩
abbrev S1x8x4096x8x128 : Shape := ⟨5, ![1, 8, 4096, 8, 128]⟩
abbrev S3x8x4096x8x128 : Shape := ⟨5, ![3, 8, 4096, 8, 128]⟩
abbrev S3x8x4096x8x1 : Shape := ⟨5, ![3, 8, 4096, 8, 1]⟩
abbrev S8x4096x8 : Shape := ⟨3, ![8, 4096, 8]⟩
abbrev S1x8x4096x8 : Shape := ⟨4, ![1, 8, 4096, 8]⟩
abbrev S1024x1024 : Shape := ⟨2, ![1024, 1024]⟩
abbrev S1x1x1024 : Shape := ⟨3, ![1, 1, 1024]⟩
abbrev S1024 : Shape := ⟨1, ![1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S8x4096 : Shape := ⟨2, ![8, 4096]⟩
abbrev S8x4096x1 : Shape := ⟨3, ![8, 4096, 1]⟩
abbrev S8x4096x5632 : Shape := ⟨3, ![8, 4096, 5632]⟩
abbrev S8x4096x2816 : Shape := ⟨3, ![8, 4096, 2816]⟩
abbrev S32768x1024 : Shape := ⟨2, ![32768, 1024]⟩

abbrev nBuf : Space → Nat
  | .hbm => 98
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x8x4096x128, .bf16⟩
  | .hbm, ⟨2, _⟩ => ⟨S8x8x4096x128, .bf16⟩
  | .hbm, ⟨3, _⟩ => ⟨S8x8x4096x128, .bf16⟩
  | .hbm, ⟨4, _⟩ => ⟨S8x1x4096x128, .f32⟩
  | .hbm, ⟨5, _⟩ => ⟨S8x1x4096x128, .f32⟩
  | .hbm, ⟨6, _⟩ => ⟨S8x2x4096x128, .f32⟩
  | .hbm, ⟨7, _⟩ => ⟨S1x1024x1024, .f32⟩
  | .hbm, ⟨8, _⟩ => ⟨S2x3x1024, .f32⟩
  | .hbm, ⟨9, _⟩ => ⟨S2x2x1024x5632, .f32⟩
  | .hbm, ⟨10, _⟩ => ⟨S2x2x2816x1024, .f32⟩
  | .hbm, ⟨11, _⟩ => ⟨S_, .f32⟩
  | .hbm, ⟨12, _⟩ => ⟨S8x4096x128, .f32⟩
  | .hbm, ⟨13, _⟩ => ⟨S_, .f32⟩
  | .hbm, ⟨14, _⟩ => ⟨S8x4096x128, .f32⟩
  | .hbm, ⟨15, _⟩ => ⟨S_, .f32⟩
  | .hbm, ⟨16, _⟩ => ⟨S8x4096x128, .f32⟩
  | .hbm, ⟨17, _⟩ => ⟨S1x8x4096x128, .f32⟩
  | .hbm, ⟨18, _⟩ => ⟨S1x8x4096x128, .f32⟩
  | .hbm, ⟨19, _⟩ => ⟨S1x8x4096x128, .f32⟩
  | .hbm, ⟨20, _⟩ => ⟨S3x8x4096x128, .f32⟩
  | .hbm, ⟨21, _⟩ => ⟨S3x8x4096x8, .f32⟩
  | .hbm, ⟨22, _⟩ => ⟨S3x8x4096x8, .f32⟩
  | .hbm, ⟨23, _⟩ => ⟨S8x8x4096x128, .f32⟩
  | .hbm, ⟨24, _⟩ => ⟨S8x4096x8x128, .f32⟩
  | .hbm, ⟨25, _⟩ => ⟨S8x8x4096x128, .f32⟩
  | .hbm, ⟨26, _⟩ => ⟨S8x4096x8x128, .f32⟩
  | .hbm, ⟨27, _⟩ => ⟨S8x8x4096x128, .f32⟩
  | .hbm, ⟨28, _⟩ => ⟨S8x4096x8x128, .f32⟩
  | .hbm, ⟨29, _⟩ => ⟨S1x8x4096x8x128, .f32⟩
  | .hbm, ⟨30, _⟩ => ⟨S1x8x4096x8x128, .f32⟩
  | .hbm, ⟨31, _⟩ => ⟨S1x8x4096x8x128, .f32⟩
  | .hbm, ⟨32, _⟩ => ⟨S3x8x4096x8x128, .f32⟩
  | .hbm, ⟨33, _⟩ => ⟨S3x8x4096x8x1, .f32⟩
  | .hbm, ⟨34, _⟩ => ⟨S3x8x4096x8x128, .f32⟩
  | .hbm, ⟨35, _⟩ => ⟨S3x8x4096x8x128, .f32⟩
  | .hbm, ⟨36, _⟩ => ⟨S3x8x4096x8, .f32⟩
  | .hbm, ⟨37, _⟩ => ⟨S3x8x4096x8, .f32⟩
  | .hbm, ⟨38, _⟩ => ⟨S_, .f32⟩
  | .hbm, ⟨39, _⟩ => ⟨S8x4096x8, .f32⟩
  | .hbm, ⟨40, _⟩ => ⟨S_, .f32⟩
  | .hbm, ⟨41, _⟩ => ⟨S8x4096x8, .f32⟩
  | .hbm, ⟨42, _⟩ => ⟨S8x4096x8, .f32⟩
  | .hbm, ⟨43, _⟩ => ⟨S1x8x4096x8, .f32⟩
  | .hbm, ⟨44, _⟩ => ⟨S3x8x4096x8, .f32⟩
  | .hbm, ⟨45, _⟩ => ⟨S3x8x4096x8, .f32⟩
  | .hbm, ⟨46, _⟩ => ⟨S3x8x4096x8, .f32⟩
  | .hbm, ⟨47, _⟩ => ⟨S_, .f32⟩
  | .hbm, ⟨48, _⟩ => ⟨S8x4096x8, .f32⟩
  | .hbm, ⟨49, _⟩ => ⟨S1x8x4096x8, .f32⟩
  | .hbm, ⟨50, _⟩ => ⟨S3x8x4096x8, .f32⟩
  | .hbm, ⟨51, _⟩ => ⟨S3x8x4096x8, .f32⟩
  | .hbm, ⟨52, _⟩ => ⟨S8x4096x8x128, .f32⟩
  | .hbm, ⟨53, _⟩ => ⟨S8x4096x1024, .f32⟩
  | .hbm, ⟨54, _⟩ => ⟨S1024x1024, .f32⟩
  | .hbm, ⟨55, _⟩ => ⟨S8x4096x1024, .f32⟩
  | .hbm, ⟨56, _⟩ => ⟨S8x4096x1024, .f32⟩
  | .hbm, ⟨57, _⟩ => ⟨S1x1x1024, .f32⟩
  | .hbm, ⟨58, _⟩ => ⟨S1024, .f32⟩
  | .hbm, ⟨59, _⟩ => ⟨S1x1x1024x5632, .f32⟩
  | .hbm, ⟨60, _⟩ => ⟨S1024x5632, .f32⟩
  | .hbm, ⟨61, _⟩ => ⟨S1x1x2816x1024, .f32⟩
  | .hbm, ⟨62, _⟩ => ⟨S2816x1024, .f32⟩
  | .hbm, ⟨63, _⟩ => ⟨S8x4096x1024, .f32⟩
  | .hbm, ⟨64, _⟩ => ⟨S_, .f32⟩
  | .hbm, ⟨65, _⟩ => ⟨S8x4096, .f32⟩
  | .hbm, ⟨66, _⟩ => ⟨S8x4096x1, .f32⟩
  | .hbm, ⟨67, _⟩ => ⟨S_, .f32⟩
  | .hbm, ⟨68, _⟩ => ⟨S8x4096x1, .f32⟩
  | .hbm, ⟨69, _⟩ => ⟨S8x4096x1, .f32⟩
  | .hbm, ⟨70, _⟩ => ⟨S_, .f32⟩
  | .hbm, ⟨71, _⟩ => ⟨S8x4096x1, .f32⟩
  | .hbm, ⟨72, _⟩ => ⟨S8x4096x1, .f32⟩
  | .hbm, ⟨73, _⟩ => ⟨S8x4096x1, .f32⟩
  | .hbm, ⟨74, _⟩ => ⟨S8x4096x1024, .f32⟩
  | .hbm, ⟨75, _⟩ => ⟨S8x4096x1024, .f32⟩
  | .hbm, ⟨76, _⟩ => ⟨S1x1x1024, .f32⟩
  | .hbm, ⟨77, _⟩ => ⟨S8x4096x1024, .f32⟩
  | .hbm, ⟨78, _⟩ => ⟨S8x4096x1024, .f32⟩
  | .hbm, ⟨79, _⟩ => ⟨S8x4096x5632, .f32⟩
  | .hbm, ⟨80, _⟩ => ⟨S8x4096x2816, .f32⟩
  | .hbm, ⟨81, _⟩ => ⟨S8x4096x2816, .f32⟩
  | .hbm, ⟨82, _⟩ => ⟨S8x4096x2816, .f32⟩
  | .hbm, ⟨83, _⟩ => ⟨S8x4096x2816, .f32⟩
  | .hbm, ⟨84, _⟩ => ⟨S_, .f32⟩
  | .hbm, ⟨85, _⟩ => ⟨S8x4096x2816, .f32⟩
  | .hbm, ⟨86, _⟩ => ⟨S8x4096x2816, .f32⟩
  | .hbm, ⟨87, _⟩ => ⟨S_, .f32⟩
  | .hbm, ⟨88, _⟩ => ⟨S8x4096x2816, .f32⟩
  | .hbm, ⟨89, _⟩ => ⟨S8x4096x2816, .f32⟩
  | .hbm, ⟨90, _⟩ => ⟨S8x4096x2816, .f32⟩
  | .hbm, ⟨91, _⟩ => ⟨S8x4096x2816, .f32⟩
  | .hbm, ⟨92, _⟩ => ⟨S8x4096x1024, .f32⟩
  | .hbm, ⟨93, _⟩ => ⟨S_, .f32⟩
  | .hbm, ⟨94, _⟩ => ⟨S8x4096x1024, .f32⟩
  | .hbm, ⟨95, _⟩ => ⟨S8x4096x1024, .f32⟩
  | .hbm, ⟨96, _⟩ => ⟨S8x4096x1024, .f32⟩
  | .hbm, ⟨97, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_cst_1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_5 : Ref sig .tc := ⟨.hbm, 64, rfl⟩
abbrev main_v47 : Ref sig .tc := ⟨.hbm, 65, rfl⟩
abbrev main_v48 : Ref sig .tc := ⟨.hbm, 66, rfl⟩
abbrev main_cst_6 : Ref sig .tc := ⟨.hbm, 67, rfl⟩
abbrev main_v49 : Ref sig .tc := ⟨.hbm, 68, rfl⟩
abbrev main_v50 : Ref sig .tc := ⟨.hbm, 69, rfl⟩
abbrev main_cst_7 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_call0_v0 : Ref sig .tc := ⟨.hbm, 82, rfl⟩
abbrev main_call0_v1 : Ref sig .tc := ⟨.hbm, 83, rfl⟩
abbrev main_call0_cst : Ref sig .tc := ⟨.hbm, 84, rfl⟩
abbrev main_call0_v2 : Ref sig .tc := ⟨.hbm, 85, rfl⟩
abbrev main_call0_v3 : Ref sig .tc := ⟨.hbm, 86, rfl⟩
abbrev main_call0_cst_0 : Ref sig .tc := ⟨.hbm, 87, rfl⟩
abbrev main_call0_v4 : Ref sig .tc := ⟨.hbm, 88, rfl⟩
abbrev main_call0_v5 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_8 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩

abbrev nD : Nat := 1
abbrev τ : Topo := Topo.v7x

variable {F : FTy → Type} [FloatOps F]
-- ==== Kernel4.lean ====
abbrev S8x4096x1024 : Shape := ⟨3, ![8, 4096, 1024]⟩
abbrev S2x3x1024 : Shape := ⟨3, ![2, 3, 1024]⟩
abbrev S1x1024x9216 : Shape := ⟨3, ![1, 1024, 9216]⟩
abbrev S1x3x128 : Shape := ⟨3, ![1, 3, 128]⟩
abbrev S1x1x128 : Shape := ⟨3, ![1, 1, 128]⟩
abbrev S128 : Shape := ⟨1, ![128]⟩
abbrev S_ : Shape := ⟨0, ![]⟩
abbrev S1x128 : Shape := ⟨2, ![1, 128]⟩
abbrev S8x128 : Shape := ⟨2, ![8, 128]⟩
abbrev S1024 : Shape := ⟨1, ![1024]⟩
abbrev S1x1024 : Shape := ⟨2, ![1, 1024]⟩
abbrev S2x1024 : Shape := ⟨2, ![2, 1024]⟩
abbrev S32768x1024 : Shape := ⟨2, ![32768, 1024]⟩
abbrev S1x1x1024 : Shape := ⟨3, ![1, 1, 1024]⟩
abbrev S1024x9216 : Shape := ⟨2, ![1024, 9216]⟩
abbrev S8x3x8x1x4096x128 : Shape := ⟨6, ![8, 3, 8, 1, 4096, 128]⟩
abbrev S1024x1024 : Shape := ⟨2, ![1024, 1024]⟩
abbrev S1024x3072 : Shape := ⟨2, ![1024, 3072]⟩
abbrev S1x3x8x1x1024x128 : Shape := ⟨6, ![1, 3, 8, 1, 1024, 128]⟩
abbrev S1024x1 : Shape := ⟨2, ![1024, 1]⟩
abbrev S1024x256 : Shape := ⟨2, ![1024, 256]⟩
abbrev S1024x128 : Shape := ⟨2, ![1024, 128]⟩
abbrev S1x1x1x1x1024x128 : Shape := ⟨6, ![1, 1, 1, 1, 1024, 128]⟩

abbrev nBuf : Space → Nat
  | .hbm => 28
  | .vmem => 8
  | .smem => 0
  | _ => 0

abbrev bufTy : (tb : Table) → Fin (tcTables nBuf tb) → BufTy
  | .hbm, ⟨0, _⟩ => ⟨S8x4096x1024, .f32⟩
  | .hbm, ⟨1, _⟩ => ⟨S2x3x1024, .f32⟩
  | .hbm, ⟨2, _⟩ => ⟨S1x1024x9216, .f32⟩
  | .hbm, ⟨3, _⟩ => ⟨S1x3x128, .f32⟩
  | .hbm, ⟨4, _⟩ => ⟨S1x3x128, .f32⟩
  | .hbm, ⟨5, _⟩ => ⟨S1x1x128, .f32⟩
  | .hbm, ⟨6, _⟩ => ⟨S128, .f32⟩
  | .hbm, ⟨7, _⟩ => ⟨S_, .f32⟩
  | .hbm, ⟨8, _⟩ => ⟨S128, .f32⟩
  | .hbm, ⟨9, _⟩ => ⟨S128, .f32⟩
  | .hbm, ⟨10, _⟩ => ⟨S1x128, .f32⟩
  | .hbm, ⟨11, _⟩ => ⟨S8x128, .f32⟩
  | .hbm, ⟨12, _⟩ => ⟨S1024, .f32⟩
  | .hbm, ⟨13, _⟩ => ⟨S1x1x128, .f32⟩
  | .hbm, ⟨14, _⟩ => ⟨S128, .f32⟩
  | .hbm, ⟨15, _⟩ => ⟨S1x128, .f32⟩
  | .hbm, ⟨16, _⟩ => ⟨S8x128, .f32⟩
  | .hbm, ⟨17, _⟩ => ⟨S1024, .f32⟩
  | .hbm, ⟨18, _⟩ => ⟨S1x1024, .f32⟩
  | .hbm, ⟨19, _⟩ => ⟨S1x1024, .f32⟩
  | .hbm, ⟨20, _⟩ => ⟨S2x1024, .f32⟩
  | .hbm, ⟨21, _⟩ => ⟨S32768x1024, .f32⟩
  | .hbm, ⟨22, _⟩ => ⟨S1x1x1024, .f32⟩
  | .hbm, ⟨23, _⟩ => ⟨S1024, .f32⟩
  | .hbm, ⟨24, _⟩ => ⟨S1024x9216, .f32⟩
  | .hbm, ⟨25, _⟩ => ⟨S1024x9216, .bf16⟩
  | .hbm, ⟨26, _⟩ => ⟨S1x1024, .f32⟩
  | .hbm, ⟨27, _⟩ => ⟨S8x3x8x1x4096x128, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3072, .bf16⟩
  | .local _ .vmem, ⟨4, _⟩ => ⟨S2x1024, .f32⟩
  | .local _ .vmem, ⟨5, _⟩ => ⟨S1x3x8x1x1024x128, .bf16⟩
  | .local _ .vmem, ⟨6, _⟩ => ⟨S1x3x8x1x1024x128, .bf16⟩
  | .local _ .vmem, ⟨7, _⟩ => ⟨S1024x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 6 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  let c0_i32_14 : BitVec 32 := 0#32
  ![v16.toNat, c0_i32_10.toNat, c0_i32_11.toNat, c0_i32_12.toNat, v26.toNat, c0_i32_13.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x3x8x1x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S8x4096x1024 : Shape := ⟨3, ![8, 4096, 1024]⟩
abbrev S2x3x1024 : Shape := ⟨3, ![2, 3, 1024]⟩
abbrev S1x1024x9216 : Shape := ⟨3, ![1, 1024, 9216]⟩
abbrev S1x3x128 : Shape := ⟨3, ![1, 3, 128]⟩
abbrev S1x1x1024 : Shape := ⟨3, ![1, 1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1024x9216 : Shape := ⟨2, ![1024, 9216]⟩
abbrev S8x4096x9216 : Shape := ⟨3, ![8, 4096, 9216]⟩
abbrev S8x4096x3x3x8x128 : Shape := ⟨6, ![8, 4096, 3, 3, 8, 128]⟩
abbrev S8x4096x1x3x8x128 : Shape := ⟨6, ![8, 4096, 1, 3, 8, 128]⟩
abbrev S8x4096x3x8x128 : Shape := ⟨5, ![8, 4096, 3, 8, 128]⟩
abbrev S8x4096x1x8x128 : Shape := ⟨5, ![8, 4096, 1, 8, 128]⟩
abbrev S8x4096x8x128 : Shape := ⟨4, ![8, 4096, 8, 128]⟩
abbrev S1x1x128 : Shape := ⟨3, ![1, 1, 128]⟩
abbrev S128 : Shape := ⟨1, ![128]⟩
abbrev S8x4096x8 : Shape := ⟨3, ![8, 4096, 8]⟩
abbrev S8x4096x8x1 : Shape := ⟨4, ![8, 4096, 8, 1]⟩
abbrev S1x1x1x128 : Shape := ⟨4, ![1, 1, 1, 128]⟩
abbrev S8x1x4096x8x128 : Shape := ⟨5, ![8, 1, 4096, 8, 128]⟩
abbrev S8x3x4096x8x128 : Shape := ⟨5, ![8, 3, 4096, 8, 128]⟩
abbrev S8x3x4096x1x8x128 : Shape := ⟨6, ![8, 3, 4096, 1, 8, 128]⟩
abbrev S8x3x8x1x4096x128 : Shape := ⟨6, ![8, 3, 8, 1, 4096, 128]⟩

abbrev nBuf : Space → Nat
  | .hbm => 80
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S2x3x1024, .f32⟩
  | .hbm, ⟨2, _⟩ => ⟨S1x1024x9216, .f32⟩
  | .hbm, ⟨3, _⟩ => ⟨S1x3x128, .f32⟩
  | .hbm, ⟨4, _⟩ => ⟨S1x3x128, .f32⟩
  | .hbm, ⟨5, _⟩ => ⟨S1x1x1024, .f32⟩
  | .hbm, ⟨6, _⟩ => ⟨S1024, .f32⟩
  | .hbm, ⟨7, _⟩ => ⟨S8x4096x1024, .f32⟩
  | .hbm, ⟨8, _⟩ => ⟨S_, .f32⟩
  | .hbm, ⟨9, _⟩ => ⟨S8x4096, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S8x4096x1, .f32⟩
  | .hbm, ⟨18, _⟩ => ⟨S8x4096x1024, .f32⟩
  | .hbm, ⟨19, _⟩ => ⟨S8x4096x1024, .f32⟩
  | .hbm, ⟨20, _⟩ => ⟨S1x1x1024, .f32⟩
  | .hbm, ⟨21, _⟩ => ⟨S8x4096x1024, .f32⟩
  | .hbm, ⟨22, _⟩ => ⟨S8x4096x1024, .f32⟩
  | .hbm, ⟨23, _⟩ => ⟨S1024x9216, .f32⟩
  | .hbm, ⟨24, _⟩ => ⟨S8x4096x9216, .f32⟩
  | .hbm, ⟨25, _⟩ => ⟨S8x4096x3x3x8x128, .f32⟩
  | .hbm, ⟨26, _⟩ => ⟨S8x4096x1x3x8x128, .f32⟩
  | .hbm, ⟨27, _⟩ => ⟨S8x4096x3x8x128, .f32⟩
  | .hbm, ⟨28, _⟩ => ⟨S8x4096x1x8x128, .f32⟩
  | .hbm, ⟨29, _⟩ => ⟨S8x4096x8x128, .f32⟩
  | .hbm, ⟨30, _⟩ => ⟨S1x1x128, .f32⟩
  | .hbm, ⟨31, _⟩ => ⟨S128, .f32⟩
  | .hbm, ⟨32, _⟩ => ⟨S8x4096x8x128, .f32⟩
  | .hbm, ⟨33, _⟩ => ⟨S_, .f32⟩
  | .hbm, ⟨34, _⟩ => ⟨S8x4096x8, .f32⟩
  | .hbm, ⟨35, _⟩ => ⟨S8x4096x8x1, .f32⟩
  | .hbm, ⟨36, _⟩ => ⟨S_, .f32⟩
  | .hbm, ⟨37, _⟩ => ⟨S8x4096x8x1, .f32⟩
  | .hbm, ⟨38, _⟩ => ⟨S8x4096x8x1, .f32⟩
  | .hbm, ⟨39, _⟩ => ⟨S_, .f32⟩
  | .hbm, ⟨40, _⟩ => ⟨S8x4096x8x1, .f32⟩
  | .hbm, ⟨41, _⟩ => ⟨S8x4096x8x1, .f32⟩
  | .hbm, ⟨42, _⟩ => ⟨S8x4096x8x1, .f32⟩
  | .hbm, ⟨43, _⟩ => ⟨S8x4096x8x128, .f32⟩
  | .hbm, ⟨44, _⟩ => ⟨S8x4096x8x128, .f32⟩
  | .hbm, ⟨45, _⟩ => ⟨S1x1x1x128, .f32⟩
  | .hbm, ⟨46, _⟩ => ⟨S8x4096x8x128, .f32⟩
  | .hbm, ⟨47, _⟩ => ⟨S8x4096x8x128, .f32⟩
  | .hbm, ⟨48, _⟩ => ⟨S_, .f32⟩
  | .hbm, ⟨49, _⟩ => ⟨S8x4096x8x128, .f32⟩
  | .hbm, ⟨50, _⟩ => ⟨S8x4096x8x128, .f32⟩
  | .hbm, ⟨51, _⟩ => ⟨S8x4096x1x8x128, .f32⟩
  | .hbm, ⟨52, _⟩ => ⟨S8x4096x8x128, .f32⟩
  | .hbm, ⟨53, _⟩ => ⟨S1x1x128, .f32⟩
  | .hbm, ⟨54, _⟩ => ⟨S128, .f32⟩
  | .hbm, ⟨55, _⟩ => ⟨S8x4096x8x128, .f32⟩
  | .hbm, ⟨56, _⟩ => ⟨S_, .f32⟩
  | .hbm, ⟨57, _⟩ => ⟨S8x4096x8, .f32⟩
  | .hbm, ⟨58, _⟩ => ⟨S8x4096x8x1, .f32⟩
  | .hbm, ⟨59, _⟩ => ⟨S_, .f32⟩
  | .hbm, ⟨60, _⟩ => ⟨S8x4096x8x1, .f32⟩
  | .hbm, ⟨61, _⟩ => ⟨S8x4096x8x1, .f32⟩
  | .hbm, ⟨62, _⟩ => ⟨S_, .f32⟩
  | .hbm, ⟨63, _⟩ => ⟨S8x4096x8x1, .f32⟩
  | .hbm, ⟨64, _⟩ => ⟨S8x4096x8x1, .f32⟩
  | .hbm, ⟨65, _⟩ => ⟨S8x4096x8x1, .f32⟩
  | .hbm, ⟨66, _⟩ => ⟨S8x4096x8x128, .f32⟩
  | .hbm, ⟨67, _⟩ => ⟨S8x4096x8x128, .f32⟩
  | .hbm, ⟨68, _⟩ => ⟨S1x1x1x128, .f32⟩
  | .hbm, ⟨69, _⟩ => ⟨S8x4096x8x128, .f32⟩
  | .hbm, ⟨70, _⟩ => ⟨S8x4096x8x128, .f32⟩
  | .hbm, ⟨71, _⟩ => ⟨S8x4096x1x8x128, .f32⟩
  | .hbm, ⟨72, _⟩ => ⟨S8x4096x8x128, .f32⟩
  | .hbm, ⟨73, _⟩ => ⟨S8x1x4096x8x128, .f32⟩
  | .hbm, ⟨74, _⟩ => ⟨S8x1x4096x8x128, .f32⟩
  | .hbm, ⟨75, _⟩ => ⟨S8x1x4096x8x128, .f32⟩
  | .hbm, ⟨76, _⟩ => ⟨S8x3x4096x8x128, .f32⟩
  | .hbm, ⟨77, _⟩ => ⟨S8x3x4096x1x8x128, .f32⟩
  | .hbm, ⟨78, _⟩ => ⟨S8x3x8x1x4096x128, .f32⟩
  | .hbm, ⟨79, _⟩ => ⟨S8x3x8x1x4096x128, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_6 : Ref sig .tc := ⟨.hbm, 56, rfl⟩
abbrev main_v44 : Ref sig .tc := ⟨.hbm, 57, rfl⟩
abbrev main_v45 : Ref sig .tc := ⟨.hbm, 58, rfl⟩
abbrev main_cst_7 : Ref sig .tc := ⟨.hbm, 59, rfl⟩
abbrev main_v46 : Ref sig .tc := ⟨.hbm, 60, rfl⟩
abbrev main_v47 : Ref sig .tc := ⟨.hbm, 61, rfl⟩
abbrev main_cst_8 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩

abbrev nD : Nat := 1
abbrev τ : Topo := Topo.v7x

variable {F : FTy → Type} [FloatOps F]
-- ==== Kernel5.lean ====
abbrev S8x4096x1024 : Shape := ⟨3, ![8, 4096, 1024]⟩
abbrev S2x3x1024 : Shape := ⟨3, ![2, 3, 1024]⟩
abbrev S1x1024x9216 : Shape := ⟨3, ![1, 1024, 9216]⟩
abbrev S1x3x128 : Shape := ⟨3, ![1, 3, 128]⟩
abbrev S1x1x128 : Shape := ⟨3, ![1, 1, 128]⟩
abbrev S128 : Shape := ⟨1, ![128]⟩
abbrev S_ : Shape := ⟨0, ![]⟩
abbrev S1x128 : Shape := ⟨2, ![1, 128]⟩
abbrev S8x128 : Shape := ⟨2, ![8, 128]⟩
abbrev S1024 : Shape := ⟨1, ![1024]⟩
abbrev S1x1024 : Shape := ⟨2, ![1, 1024]⟩
abbrev S2x1024 : Shape := ⟨2, ![2, 1024]⟩
abbrev S32768x1024 : Shape := ⟨2, ![32768, 1024]⟩
abbrev S1x1x1024 : Shape := ⟨3, ![1, 1, 1024]⟩
abbrev S1024x9216 : Shape := ⟨2, ![1024, 9216]⟩
abbrev S8x3x8x4x1024x128 : Shape := ⟨6, ![8, 3, 8, 4, 1024, 128]⟩
abbrev S1024x1024 : Shape := ⟨2, ![1024, 1024]⟩
abbrev S1024x3072 : Shape := ⟨2, ![1024, 3072]⟩
abbrev S1x3x8x4x256x128 : Shape := ⟨6, ![1, 3, 8, 4, 256, 128]⟩
abbrev S8x1024x128 : Shape := ⟨3, ![8, 1024, 128]⟩
abbrev S1024x1 : Shape := ⟨2, ![1024, 1]⟩
abbrev S1024x128 : Shape := ⟨2, ![1024, 128]⟩
abbrev S1x1024x128 : Shape := ⟨3, ![1, 1024, 128]⟩
abbrev S1x256x128 : Shape := ⟨3, ![1, 256, 128]⟩
abbrev S256x128 : Shape := ⟨2, ![256, 128]⟩
abbrev S1024x256 : Shape := ⟨2, ![1024, 256]⟩
abbrev S1x1x1x1x256x128 : Shape := ⟨6, ![1, 1, 1, 1, 256, 128]⟩

abbrev nBuf : Space → Nat
  | .hbm => 28
  | .vmem => 9
  | .smem => 0
  | _ => 0

abbrev bufTy : (tb : Table) → Fin (tcTables nBuf tb) → BufTy
  | .hbm, ⟨0, _⟩ => ⟨S8x4096x1024, .f32⟩
  | .hbm, ⟨1, _⟩ => ⟨S2x3x1024, .f32⟩
  | .hbm, ⟨2, _⟩ => ⟨S1x1024x9216, .f32⟩
  | .hbm, ⟨3, _⟩ => ⟨S1x3x128, .f32⟩
  | .hbm, ⟨4, _⟩ => ⟨S1x3x128, .f32⟩
  | .hbm, ⟨5, _⟩ => ⟨S1x1x128, .f32⟩
  | .hbm, ⟨6, _⟩ => ⟨S128, .f32⟩
  | .hbm, ⟨7, _⟩ => ⟨S_, .f32⟩
  | .hbm, ⟨8, _⟩ => ⟨S128, .f32⟩
  | .hbm, ⟨9, _⟩ => ⟨S128, .f32⟩
  | .hbm, ⟨10, _⟩ => ⟨S1x128, .f32⟩
  | .hbm, ⟨11, _⟩ => ⟨S8x128, .f32⟩
  | .hbm, ⟨12, _⟩ => ⟨S1024, .f32⟩
  | .hbm, ⟨13, _⟩ => ⟨S1x1x128, .f32⟩
  | .hbm, ⟨14, _⟩ => ⟨S128, .f32⟩
  | .hbm, ⟨15, _⟩ => ⟨S1x128, .f32⟩
  | .hbm, ⟨16, _⟩ => ⟨S8x128, .f32⟩
  | .hbm, ⟨17, _⟩ => ⟨S1024, .f32⟩
  | .hbm, ⟨18, _⟩ => ⟨S1x1024, .f32⟩
  | .hbm, ⟨19, _⟩ => ⟨S1x1024, .f32⟩
  | .hbm, ⟨20, _⟩ => ⟨S2x1024, .f32⟩
  | .hbm, ⟨21, _⟩ => ⟨S32768x1024, .f32⟩
  | .hbm, ⟨22, _⟩ => ⟨S1x1x1024, .f32⟩
  | .hbm, ⟨23, _⟩ => ⟨S1024, .f32⟩
  | .hbm, ⟨24, _⟩ => ⟨S1024x9216, .f32⟩
  | .hbm, ⟨25, _⟩ => ⟨S1024x9216, .bf16⟩
  | .hbm, ⟨26, _⟩ => ⟨S1x1024, .f32⟩
  | .hbm, ⟨27, _⟩ => ⟨S8x3x8x4x1024x128, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3072, .bf16⟩
  | .local _ .vmem, ⟨4, _⟩ => ⟨S2x1024, .f32⟩
  | .local _ .vmem, ⟨5, _⟩ => ⟨S1x3x8x4x256x128, .bf16⟩
  | .local _ .vmem, ⟨6, _⟩ => ⟨S1x3x8x4x256x128, .bf16⟩
  | .local _ .vmem, ⟨7, _⟩ => ⟨S1024x1024, .bf16⟩
  | .local _ .vmem, ⟨8, _⟩ => ⟨S8x1024x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 6 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  let c0_i32_14 : BitVec 32 := 0#32
  ![v16.toNat, c0_i32_10.toNat, c0_i32_11.toNat, c0_i32_12.toNat, v26.toNat, c0_i32_13.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x3x8x4x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S8x4096x1024 : Shape := ⟨3, ![8, 4096, 1024]⟩
abbrev S2x3x1024 : Shape := ⟨3, ![2, 3, 1024]⟩
abbrev S1x1024x9216 : Shape := ⟨3, ![1, 1024, 9216]⟩
abbrev S1x3x128 : Shape := ⟨3, ![1, 3, 128]⟩
abbrev S1x1x1024 : Shape := ⟨3, ![1, 1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1024x9216 : Shape := ⟨2, ![1024, 9216]⟩
abbrev S8x4096x9216 : Shape := ⟨3, ![8, 4096, 9216]⟩
abbrev S8x4096x3x3x8x128 : Shape := ⟨6, ![8, 4096, 3, 3, 8, 128]⟩
abbrev S8x4096x1x3x8x128 : Shape := ⟨6, ![8, 4096, 1, 3, 8, 128]⟩
abbrev S8x4096x3x8x128 : Shape := ⟨5, ![8, 4096, 3, 8, 128]⟩
abbrev S8x4096x1x8x128 : Shape := ⟨5, ![8, 4096, 1, 8, 128]⟩
abbrev S8x4096x8x128 : Shape := ⟨4, ![8, 4096, 8, 128]⟩
abbrev S1x1x128 : Shape := ⟨3, ![1, 1, 128]⟩
abbrev S128 : Shape := ⟨1, ![128]⟩
abbrev S8x4096x8 : Shape := ⟨3, ![8, 4096, 8]⟩
abbrev S8x4096x8x1 : Shape := ⟨4, ![8, 4096, 8, 1]⟩
abbrev S1x1x1x128 : Shape := ⟨4, ![1, 1, 1, 128]⟩
abbrev S8x1x4096x8x128 : Shape := ⟨5, ![8, 1, 4096, 8, 128]⟩
abbrev S8x3x4096x8x128 : Shape := ⟨5, ![8, 3, 4096, 8, 128]⟩
abbrev S8x3x1024x4x8x128 : Shape := ⟨6, ![8, 3, 1024, 4, 8, 128]⟩
abbrev S8x3x8x4x1024x128 : Shape := ⟨6, ![8, 3, 8, 4, 1024, 128]⟩

abbrev nBuf : Space → Nat
  | .hbm => 80
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S2x3x1024, .f32⟩
  | .hbm, ⟨2, _⟩ => ⟨S1x1024x9216, .f32⟩
  | .hbm, ⟨3, _⟩ => ⟨S1x3x128, .f32⟩
  | .hbm, ⟨4, _⟩ => ⟨S1x3x128, .f32⟩
  | .hbm, ⟨5, _⟩ => ⟨S1x1x1024, .f32⟩
  | .hbm, ⟨6, _⟩ => ⟨S1024, .f32⟩
  | .hbm, ⟨7, _⟩ => ⟨S8x4096x1024, .f32⟩
  | .hbm, ⟨8, _⟩ => ⟨S_, .f32⟩
  | .hbm, ⟨9, _⟩ => ⟨S8x4096, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S8x4096x1, .f32⟩
  | .hbm, ⟨18, _⟩ => ⟨S8x4096x1024, .f32⟩
  | .hbm, ⟨19, _⟩ => ⟨S8x4096x1024, .f32⟩
  | .hbm, ⟨20, _⟩ => ⟨S1x1x1024, .f32⟩
  | .hbm, ⟨21, _⟩ => ⟨S8x4096x1024, .f32⟩
  | .hbm, ⟨22, _⟩ => ⟨S8x4096x1024, .f32⟩
  | .hbm, ⟨23, _⟩ => ⟨S1024x9216, .f32⟩
  | .hbm, ⟨24, _⟩ => ⟨S8x4096x9216, .f32⟩
  | .hbm, ⟨25, _⟩ => ⟨S8x4096x3x3x8x128, .f32⟩
  | .hbm, ⟨26, _⟩ => ⟨S8x4096x1x3x8x128, .f32⟩
  | .hbm, ⟨27, _⟩ => ⟨S8x4096x3x8x128, .f32⟩
  | .hbm, ⟨28, _⟩ => ⟨S8x4096x1x8x128, .f32⟩
  | .hbm, ⟨29, _⟩ => ⟨S8x4096x8x128, .f32⟩
  | .hbm, ⟨30, _⟩ => ⟨S1x1x128, .f32⟩
  | .hbm, ⟨31, _⟩ => ⟨S128, .f32⟩
  | .hbm, ⟨32, _⟩ => ⟨S8x4096x8x128, .f32⟩
  | .hbm, ⟨33, _⟩ => ⟨S_, .f32⟩
  | .hbm, ⟨34, _⟩ => ⟨S8x4096x8, .f32⟩
  | .hbm, ⟨35, _⟩ => ⟨S8x4096x8x1, .f32⟩
  | .hbm, ⟨36, _⟩ => ⟨S_, .f32⟩
  | .hbm, ⟨37, _⟩ => ⟨S8x4096x8x1, .f32⟩
  | .hbm, ⟨38, _⟩ => ⟨S8x4096x8x1, .f32⟩
  | .hbm, ⟨39, _⟩ => ⟨S_, .f32⟩
  | .hbm, ⟨40, _⟩ => ⟨S8x4096x8x1, .f32⟩
  | .hbm, ⟨41, _⟩ => ⟨S8x4096x8x1, .f32⟩
  | .hbm, ⟨42, _⟩ => ⟨S8x4096x8x1, .f32⟩
  | .hbm, ⟨43, _⟩ => ⟨S8x4096x8x128, .f32⟩
  | .hbm, ⟨44, _⟩ => ⟨S8x4096x8x128, .f32⟩
  | .hbm, ⟨45, _⟩ => ⟨S1x1x1x128, .f32⟩
  | .hbm, ⟨46, _⟩ => ⟨S8x4096x8x128, .f32⟩
  | .hbm, ⟨47, _⟩ => ⟨S8x4096x8x128, .f32⟩
  | .hbm, ⟨48, _⟩ => ⟨S_, .f32⟩
  | .hbm, ⟨49, _⟩ => ⟨S8x4096x8x128, .f32⟩
  | .hbm, ⟨50, _⟩ => ⟨S8x4096x8x128, .f32⟩
  | .hbm, ⟨51, _⟩ => ⟨S8x4096x1x8x128, .f32⟩
  | .hbm, ⟨52, _⟩ => ⟨S8x4096x8x128, .f32⟩
  | .hbm, ⟨53, _⟩ => ⟨S1x1x128, .f32⟩
  | .hbm, ⟨54, _⟩ => ⟨S128, .f32⟩
  | .hbm, ⟨55, _⟩ => ⟨S8x4096x8x128, .f32⟩
  | .hbm, ⟨56, _⟩ => ⟨S_, .f32⟩
  | .hbm, ⟨57, _⟩ => ⟨S8x4096x8, .f32⟩
  | .hbm, ⟨58, _⟩ => ⟨S8x4096x8x1, .f32⟩
  | .hbm, ⟨59, _⟩ => ⟨S_, .f32⟩
  | .hbm, ⟨60, _⟩ => ⟨S8x4096x8x1, .f32⟩
  | .hbm, ⟨61, _⟩ => ⟨S8x4096x8x1, .f32⟩
  | .hbm, ⟨62, _⟩ => ⟨S_, .f32⟩
  | .hbm, ⟨63, _⟩ => ⟨S8x4096x8x1, .f32⟩
  | .hbm, ⟨64, _⟩ => ⟨S8x4096x8x1, .f32⟩
  | .hbm, ⟨65, _⟩ => ⟨S8x4096x8x1, .f32⟩
  | .hbm, ⟨66, _⟩ => ⟨S8x4096x8x128, .f32⟩
  | .hbm, ⟨67, _⟩ => ⟨S8x4096x8x128, .f32⟩
  | .hbm, ⟨68, _⟩ => ⟨S1x1x1x128, .f32⟩
  | .hbm, ⟨69, _⟩ => ⟨S8x4096x8x128, .f32⟩
  | .hbm, ⟨70, _⟩ => ⟨S8x4096x8x128, .f32⟩
  | .hbm, ⟨71, _⟩ => ⟨S8x4096x1x8x128, .f32⟩
  | .hbm, ⟨72, _⟩ => ⟨S8x4096x8x128, .f32⟩
  | .hbm, ⟨73, _⟩ => ⟨S8x1x4096x8x128, .f32⟩
  | .hbm, ⟨74, _⟩ => ⟨S8x1x4096x8x128, .f32⟩
  | .hbm, ⟨75, _⟩ => ⟨S8x1x4096x8x128, .f32⟩
  | .hbm, ⟨76, _⟩ => ⟨S8x3x4096x8x128, .f32⟩
  | .hbm, ⟨77, _⟩ => ⟨S8x3x1024x4x8x128, .f32⟩
  | .hbm, ⟨78, _⟩ => ⟨S8x3x8x4x1024x128, .f32⟩
  | .hbm, ⟨79, _⟩ => ⟨S8x3x8x4x1024x128, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_6 : Ref sig .tc := ⟨.hbm, 56, rfl⟩
abbrev main_v44 : Ref sig .tc := ⟨.hbm, 57, rfl⟩
abbrev main_v45 : Ref sig .tc := ⟨.hbm, 58, rfl⟩
abbrev main_cst_7 : Ref sig .tc := ⟨.hbm, 59, rfl⟩
abbrev main_v46 : Ref sig .tc := ⟨.hbm, 60, rfl⟩
abbrev main_v47 : Ref sig .tc := ⟨.hbm, 61, rfl⟩
abbrev main_cst_8 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩

abbrev nD : Nat := 1
abbrev τ : Topo := Topo.v7x

variable {F : FTy → Type} [FloatOps F]
-- ==== Proof.Attn.Spec.lean ====
module

public import proofs.«01_k».proof.Proof.Gen.ReferenceIdeal.Read
public import Idealize.ShloMosaic.Lib.Pipeline.ValueKit
public import Idealize.ShloMosaic.Lib.Pointwise
public import Idealize.ShloMosaic.Lib.WordCmp

@[expose] public section

set_option maxRecDepth 16384

noncomputable section

open Idealize.ShloMosaic Idealize.ShloMosaic.TcCoe Idealize.SL.Sem

/-! # Banded attention, one query at a time

What the attention puts at one place of its results, written over the array of queries, keys and values.
A query of block `n` sees a window of 256 keys, the block before it and its own; of these it may use the
ones at most 128 places back. The largest score and the sum of the exponentials are results of their own. -/

namespace Cert.Attn

/-- The layout of the queries, keys and values. -/
abbrev SQKV : Shape := ⟨6, ![8, 3, 8, 1, 4096, 128]⟩

/-- Query `q` of block `n` may use place `j` of its window: not a later key, at most 128 back, and no block before the first. -/
abbrev Valid (n q j : ℕ) : Prop := q ≤ j ∧ j ≤ q + 128 ∧ (n = 0 → 128 ≤ j)

/-- The largest entry of a row. -/
def rowM (s : Fin 256 → EReal) : EReal := Finset.univ.fold max (Ideal.ofBits .f32 0xFF800000#32) s

/-- The exponential of an entry of a row less the largest one. -/
def rowP (s : Fin 256 → EReal) (j : Fin 256) : EReal := Ideal.exp (s j - rowM s)

/-- The sum of these exponentials. -/
def rowL (s : Fin 256 → EReal) : EReal := ∑ j, rowP s j

/-- The exponentials against one column of values. -/
def rowO (s v : Fin 256 → EReal) : EReal := ∑ j, rowP s j * v j

/-- An entry the mask has removed has weight nothing. -/
theorem rowP_bot (s : Fin 256 → EReal) (j : Fin 256) (h : s j = ⊥) : rowP s j = 0 := by
  unfold rowP; rw [h, EReal.bot_sub, Ideal.exp_bot]

/-- So the values at removed places do not matter. -/
theorem rowO_congr (s v w : Fin 256 → EReal) (h : ∀ j, s j ≠ ⊥ → v j = w j) : rowO s v = rowO s w := by
  unfold rowO
  refine Finset.sum_congr rfl fun j _ => ?_
  by_cases hb : s j = ⊥
  · rw [rowP_bot s j hb, zero_mul, zero_mul]
  · rw [h j hb]

variable (X : FVec Ideal SQKV .bf16)

/-- The score of query `q` of block `n` at place `j` of its window; nothing where it may not look. -/
def score (b h : Fin 8) (n : Fin 32) (q : Fin 128) (j : Fin 256) : EReal :=
  if Valid n q j then ∑ e : Fin 128, X (ix6 b 0 h 0 ⟨n.val * 128 + q.val, by omega⟩ e) * X (ix6 b 1 h 0 ⟨n.val * 128 + j.val - 128, by omega⟩ e) else ⊥

/-- The value at place `j` of the window of block `n`, column `e`. -/
def value (b h : Fin 8) (n : Fin 32) (e : Fin 128) (j : Fin 256) : EReal :=
  X (ix6 b 2 h 0 ⟨n.val * 128 + j.val - 128, by omega⟩ e)

/-- The largest score of a query. -/
def attnM (b h : Fin 8) (n : Fin 32) (q : Fin 128) : EReal := rowM (score X b h n q)

/-- The sum of a query's exponentials. -/
def attnL (b h : Fin 8) (n : Fin 32) (q : Fin 128) : EReal := rowL (score X b h n q)

/-- A query's exponentials against one column of the values, not yet divided by their sum. -/
def attnO (b h : Fin 8) (n : Fin 32) (q e : Fin 128) : EReal := rowO (score X b h n q) (value X b h n e)

/-- The second result: the largest scores of the eight heads, the sums of the eight heads, and zeros. -/
def stat (b : Fin 8) (n : Fin 32) (q ℓ : Fin 128) : EReal :=
  if h : ℓ.val < 8 then attnM X b ⟨ℓ.val, h⟩ n q
  else if h' : ℓ.val - 8 < 8 then attnL X b ⟨ℓ.val - 8, h'⟩ n q else 0

end Cert.Attn

namespace Cert.ReferenceIdeal.Attn

open Cert.ReferenceIdeal Cert.ReferenceIdeal.Read

/-- How far back of a query a place lies, as the word the mask compares. -/
theorem toInt_back (q : Fin 128) (j : Fin 256) :
    (IntOp.subi (IntOp.addi (128#32) (BitVec.ofNat 32 q.val)) (BitVec.ofNat 32 j.val)).toInt = 128 + (q.val : Int) - j.val := by
  have := q.isLt
  have := j.isLt
  simp only [IntOp.subi, IntOp.addi, BitVec.toInt_eq_toNat_cond, BitVec.toNat_sub, BitVec.toNat_add, BitVec.toNat_ofNat]
  omega

/-- Where a place lies in the sequence, as the word the mask compares. -/
theorem toInt_place (n : Fin 32) (j : Fin 256) :
    (IntOp.addi (IntOp.subi (IntOp.muli (BitVec.ofNat 32 n.val) 128#32) 128#32) (BitVec.ofNat 32 j.val)).toInt
      = (n.val : Int) * 128 - 128 + j.val := by
  have := n.isLt
  have := j.isLt
  simp only [IntOp.subi, IntOp.addi, IntOp.muli, BitVec.toInt_eq_toNat_cond, BitVec.toNat_sub, BitVec.toNat_add, BitVec.toNat_mul, BitVec.toNat_ofNat]
  omega

/-- The pattern of minus infinity is the least extended real. -/
theorem ofBits_least : Ideal.ofBits .f32 0xFF800000#32 = ⊥ := by
  simp [Ideal.ofBits, Ideal.ieee]

/-- The reference's mask at one place. -/
theorem mask_at (b h : Fin 8) (n : Fin 32) (q : Fin 128) (j : Fin 256) (x y : EReal) :
    Scalar.select (val_main_call0_v1 (F := Ideal) (ix5 b h n q j)) x y = if Cert.Attn.Valid n q j then x else y := by
  pointwise [val_main_call0_v1, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33,
    val_main_v32, val_main_v31, val_main_v30, val_main_v29, val_main_v28, val_main_v27, val_main_v26, val_main_v25, val_main_v24, val_main_v23, val_main_c, val_main_c_1, val_main_c_2, val_main_c_3, val_main_c_4, val_main_c_5]
  simp only [WordCmp.cmpi_sge_eq, WordCmp.cmpi_sle_eq, toInt_back, toInt_place]
  simp (disch := word_cmp_side) only [hlo_ix]
  exact if_congr (by unfold Cert.Attn.Valid; omega) rfl rfl

/-- The reference's scores at one place. -/
theorem score_at (X : FVec Ideal Cert.Attn.SQKV .bf16) (b h : Fin 8) (n : Fin 32) (q : Fin 128) (j : Fin 256) :
    val_main_v54 (F := Ideal) X (ix5 b h n q j) = Cert.Attn.score X b h n q j := by
  pointwise [val_main_v54, val_main_v22, val_main_v16, val_main_v15, val_main_v14, val_main_v13, val_main_v12, val_main_v7, val_main_v6, val_main_v5, val_main_v4, val_main_v3, val_main_v2, val_main_v1, val_main_v0, val_main_cst, val_main_call0_v2, val_main_call0_v0, val_main_cst_6]
  refine (mask_at b h n q j _ _).trans ?_
  unfold Cert.Attn.score
  by_cases hv : Cert.Attn.Valid n q j
  · rw [if_pos hv, if_pos hv]
    refine Finset.sum_congr rfl fun e _ => ?_
    refine Ideal.mul_congr rfl ?_
    unfold Cert.Attn.Valid at hv
    by_cases hj : j.val < 128
    · rw [dif_pos hj, dif_neg (by omega)]
      blk_ext
    · rw [dif_neg hj]
      blk_ext
  · rw [if_neg hv, if_neg hv]
    exact ofBits_least

/-- The reference's values where the mask lets one look. -/
theorem value_at (X : FVec Ideal Cert.Attn.SQKV .bf16) (b h : Fin 8) (n : Fin 32) (q e : Fin 128) (j : Fin 256) (hv : Cert.Attn.Valid n q j) :
    val_main_v21 (F := Ideal) X (ix5 b h n j e) = Cert.Attn.value X b h n e j := by
  pointwise [val_main_v21, val_main_v20, val_main_v19, val_main_v18, val_main_v17,  val_main_cst_0, val_main_v11, val_main_v10, val_main_v9, val_main_v8]
  unfold Cert.Attn.value
  unfold Cert.Attn.Valid at hv
  by_cases hj : j.val < 128
  · rw [dif_pos hj, dif_neg (by omega)]
    blk_ext
  · rw [dif_neg hj]
    blk_ext

/-- The reference's first result at one place. -/
theorem o_at (X : FVec Ideal Cert.Attn.SQKV .bf16) (b h : Fin 8) (R : Fin 4096) (e : Fin 128) :
    val_main_v70 (F := Ideal) X (ix4 b h R e) = Cert.Attn.attnO X b h ⟨R.val / 128, by omega⟩ ⟨R.val % 128, by omega⟩ e := by
  pointwise [val_main_v70, val_main_v69, val_main_v62, val_main_v59, val_main_v58, val_main_v57, val_main_v56, val_main_v55, val_main_cst_7]
  simp only [score_at]
  exact Cert.Attn.rowO_congr (Cert.Attn.score X b h ⟨R.val / 128, _⟩ ⟨R.val % 128, _⟩) _ _ fun j hj =>
    value_at X b h _ _ e j (by by_contra hv; exact hj (if_neg hv))

/-- The reference's second result at one place. -/
theorem stat_at (X : FVec Ideal Cert.Attn.SQKV .bf16) (b : Fin 8) (R : Fin 4096) (ℓ : Fin 128) :
    val_main_v71 (F := Ideal) X (ix4 b 0 R ℓ) = Cert.Attn.stat X b ⟨R.val / 128, by omega⟩ ⟨R.val % 128, by omega⟩ ℓ := by
  pointwise [val_main_v71, val_main_v68, val_main_v67, val_main_v66, val_main_v65, val_main_v64, val_main_v63, val_main_v61, val_main_v60, val_main_v59, val_main_v58, val_main_v57, val_main_v56, val_main_v55, val_main_cst_7, val_main_cst_8, val_main_cst_9]
  simp only [score_at]
  rfl

end Cert.ReferenceIdeal.Attn

end
-- ==== Proof.Attn.Tile.lean ====
module

public import proofs.«01_k».proof.Proof.Gen.KernelIdeal.Skeleton
public import proofs.«01_k».proof.Proof.Attn.Spec
public import Idealize.ShloMosaic.Lib.Pipeline.ValueKit
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.KernelIdeal.Attn

open Cert.KernelIdeal Cert.KernelIdeal.Gen

variable {F : FTy → Type} [FloatOps F] [Named F]

/-- The scores of one block of queries against its window of keys, with the mask added. -/
def tileS (b : FVec F S128x256 .f32) (q : Vec F S1x1x1x1x128x128 .bf16) (k : FVec F S256x128 .bf16) : FVec F S128x256 .f32 :=
  addf (matmul dot_S128x128_S256x128_S128x256_1_1_0_0_n_n none
    (shapeCast S128x128 q shapeCasts_S1x1x1x1x128x128_S128x128 : FVec F S128x128 .bf16) k (constant S128x256 .f32 0x00000000#32)) b

/-- The largest score of each query. -/
def tileM (b : FVec F S128x256 .f32) (q : Vec F S1x1x1x1x128x128 .bf16) (k : FVec F S256x128 .bf16) : FVec F S128x1 .f32 :=
  shapeCast S128x1 (multiReduction .maximumf [1] S128 (tileS b q k) 0xFF800000#32 reduces_S128x256_S128 (.inl rfl) rfl) shapeCasts_S128_S128x1

/-- The exponentials of the scores against the values, with columns of ones beside the values. -/
def tileP (b : FVec F S128x256 .f32) (q : Vec F S1x1x1x1x128x128 .bf16) (k v : FVec F S256x128 .bf16) : FVec F S128x256 .f32 :=
  matmul dot_S128x256_S256x256_S128x256_1_0_0_1_n_n none
    (truncf .bf16 (exp (subf (tileS b q k) (broadcastTo S128x256 (tileM b q k) broadcasts_S128x1_S128x256))) bitsLt_bf16_f32)
    (concatenate S256x256 1 [⟨S256x128, v⟩, ⟨S256x128, k0_pay4⟩] concatenates_S256x128_S256x128_S256x256_d1)
    (constant S128x256 .f32 0x00000000#32)

/-- One block of the first result. -/
def tileO (b : FVec F S128x256 .f32) (q : Vec F S1x1x1x1x128x128 .bf16) (k v : FVec F S256x128 .bf16) : FVec F S1x1x128x128 .bf16 :=
  shapeCast S1x1x128x128 (truncf .bf16 (extractStridedSlice S128x128 ![0, 0] (tileP b q k v) slices_S128x256_o0_0_S128x128) bitsLt_bf16_f32)
    shapeCasts_S128x128_S1x1x128x128

/-- One block of the second result after one more head: the head's largest scores in the lane `a`, its sums in the lane `c`. -/
def tileT (ℓ : IVec S128x128 32) (a c : BitVec 32) (b : FVec F S128x256 .f32) (q : Vec F S1x1x1x1x128x128 .bf16) (k v : FVec F S256x128 .bf16)
    (prev : FVec F S128x128 .f32) : FVec F S128x128 .f32 :=
  select (cmpi .eq ℓ (broadcast S128x128 c)) (extractStridedSlice S128x128 ![0, 128] (tileP b q k v) slices_S128x256_o0_128_S128x128)
    (select (cmpi .eq ℓ (broadcast S128x128 a))
      (broadcastTo S128x128 (shapeCast S128x1 (tileM b q k) shapeCasts_S128x1_S128x1) broadcasts_S128x1_S128x128) prev)

/-- The lane of a column. -/
def lanes : IVec S128x128 32 := iota .tc S128x128 32 [1] iota_S128x128_d1_w32

/-- The word behind the mask's reach is far from wrapping. -/
theorem toInt_reach (r : Fin 128) : (IntOp.addi (BitVec.ofNat 32 r.val) 128#32).toInt = (r.val : Int) + 128 := by
  have := r.isLt
  simp only [IntOp.addi, BitVec.toInt_eq_toNat_cond, BitVec.toNat_add, BitVec.toNat_ofNat]
  omega

/-- A place of the window as a signed word. -/
theorem toInt_window (j : Fin 256) : (BitVec.ofNat 32 j.val).toInt = (j.val : Int) := by
  have := j.isLt
  simp only [BitVec.toInt_eq_toNat_cond, BitVec.toNat_ofNat]
  omega

/-- The mask's value is the least extended real. -/
theorem mask_least : Named.named (F := Ideal) (φ := .f32) κ "mask" 0xF149F2CA#32 = (⊥ : EReal) :=
  IdealRules.named_const.ideal_named_scalar _ _ _ _ rfl

/-- The mask lets a query see from itself to 128 places back. -/
theorem bias_rest (n : Fin 32) (hn : n.val ≠ 0) (r : Fin 128) (j : Fin 256) :
    k0_pay2 (F := Ideal) (ix2 r j) = if Cert.Attn.Valid n.val r.val j.val then 0 else ⊥ := by
  pointwise [k0_pay2]
  simp only [WordCmp.cmpi_sle_eq, toInt_reach, toInt_window, mask_least]
  simp (disch := word_cmp_side) only [hlo_ix]
  exact if_congr (by unfold Cert.Attn.Valid; omega) (by simp) rfl

/-- The first block of a half: the first half has no block before it. -/
theorem bias_first (i : grid0.Coords) (n : Fin 32) (hn : n.val = (i 1).val * 16) (r : Fin 128) (j : Fin 256) :
    k0_pay3 (F := Ideal) i (ix2 r j) = if Cert.Attn.Valid n.val r.val j.val then 0 else ⊥ := by
  pointwise [k0_pay2, k0_pay3]
  simp only [WordCmp.cmpi_sle_eq, toInt_reach, toInt_window, mask_least]
  simp (disch := word_cmp_side) only [hlo_ix]
  by_cases h : (i 1).val = 0 ∧ j.val < 128
  · rw [if_pos h, if_neg (by unfold Cert.Attn.Valid; omega)]
  · rw [if_neg h]
    exact if_congr (by unfold Cert.Attn.Valid; omega) (by simp) rfl

/-- The row of the sequence query `r` of block `N` is. -/
abbrev rowQ (N : Fin 32) (r : Fin 128) : Fin 4096 := ⟨N.val * 128 + r.val, by omega⟩

/-- The row of the sequence place `j` of the window of block `N` is. -/
abbrev rowK (N : Fin 32) (j : Fin 256) : Fin 4096 := ⟨N.val * 128 + j.val - 128, by omega⟩

section
variable (X : FVec Ideal Cert.Attn.SQKV .bf16) (bb H : Fin 8) (N : Fin 32)
  (b : FVec Ideal S128x256 .f32) (q : Vec Ideal S1x1x1x1x128x128 .bf16) (k v : FVec Ideal S256x128 .bf16)
  (hb : ∀ (r : Fin 128) (j : Fin 256), b (ix2 r j) = if Cert.Attn.Valid N.val r.val j.val then 0 else ⊥)
  (hq : ∀ r e : Fin 128, q (ix6 0 0 0 0 r e) = X (ix6 bb 0 H 0 (rowQ N r) e))
  (hk : ∀ (j : Fin 256) (e : Fin 128), (N.val = 0 → 128 ≤ j.val) → k (ix2 j e) = X (ix6 bb 1 H 0 (rowK N j) e))
  (hv : ∀ (j : Fin 256) (e : Fin 128), (N.val = 0 → 128 ≤ j.val) → v (ix2 j e) = X (ix6 bb 2 H 0 (rowK N j) e))

include hb hq hk in
/-- The scores of a block are the layer's. -/
theorem score_of (r : Fin 128) (j : Fin 256) :
    (∑ e : Fin 128, (show Ideal .bf16 from q (ix6 0 0 0 0 r e)) * k (ix2 j e)) + b (ix2 r j) = Cert.Attn.score X bb H N r j := by
  rw [hb]
  unfold Cert.Attn.score
  by_cases h : Cert.Attn.Valid N.val r.val j.val
  · rw [if_pos h, if_pos h, add_zero]
    exact Finset.sum_congr rfl fun e _ => by rw [hk j e h.2.2]; exact congrArg (· * _) (hq r e)
  · rw [if_neg h, if_neg h, EReal.add_bot]

include hb hq hk hv in
/-- One block of the first result. -/
theorem tileO_spec (r e : Fin 128) : tileO b q k v (ix4 0 0 r e) = Cert.Attn.attnO X bb H N r e := by
  have hs := score_of X bb H N b q k hb hq hk
  dsimp only at hs
  pointwise [tileO, tileP, tileM, tileS, k0_pay4]
  simp only [hs]
  exact Cert.Attn.rowO_congr (Cert.Attn.score X bb H N r) _ _ fun j hj =>
    hv j e (by by_contra hc; exact hj (if_neg fun h => hc h.2.2))

include hb hq hk hv in
/-- One block of the second result, one head more. -/
theorem tileT_spec (a c : BitVec 32) (ha : a = BitVec.ofNat 32 H.val) (hc : c = BitVec.ofNat 32 (8 + H.val)) (prev : FVec Ideal S128x128 .f32) (r ℓ : Fin 128) :
    tileT lanes a c b q k v prev (ix2 r ℓ) = if ℓ.val = 8 + H.val then Cert.Attn.attnL X bb H N r
      else if ℓ.val = H.val then Cert.Attn.attnM X bb H N r else prev (ix2 r ℓ) := by
  have hs := score_of X bb H N b q k hb hq hk
  dsimp only at hs
  subst ha hc
  pointwise [tileT, lanes, tileP, tileM, tileS, k0_pay4]
  simp only [hs]
  simp (disch := word_cmp_side) only [hlo_ix]
  rfl

end

end Cert.KernelIdeal.Attn

end
-- ==== Proof.Attn.Piece.lean ====
module

public import proofs.«01_k».proof.Proof.Attn.Tile
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.KernelIdeal.Attn

open Cert.KernelIdeal Cert.KernelIdeal.Gen

/-! # One block of the grid

A point of the grid has the queries, keys and values of one half of a sequence and the 128 keys and values before it.
Of its sixteen blocks of queries all but the first find their window inside the half. -/

/-- The row of the sequence row `r` of a half is. -/
abbrev rowH (i : grid0.Coords) (r : Fin 2048) : Fin 4096 := ⟨(i 1).val * 2048 + r.val, by have h : (i 1).val < 2 := (i 1).isLt; omega⟩

/-- The row of the sequence row `r` of the block before a half is. -/
abbrev rowB (i : grid0.Coords) (r : Fin 128) : Fin 4096 := ⟨(i 1).val * 2048 + r.val - 128, by have h : (i 1).val < 2 := (i 1).isLt; omega⟩

section
variable (i : grid0.Coords) (bb : Fin 8) (X : FVec Ideal Cert.Attn.SQKV .bf16)
    (x0 x1 x2 : Vec Ideal S1x1x8x1x2048x128 .bf16) (x3 x4 : Vec Ideal S1x1x8x1x128x128 .bf16)
    (H0 : ∀ (h : Fin 8) (r : Fin 2048) (e : Fin 128), x0 (ix6 0 0 h 0 r e) = X (ix6 bb 0 h 0 (rowH i r) e))
    (H1 : ∀ (h : Fin 8) (r : Fin 2048) (e : Fin 128), x1 (ix6 0 0 h 0 r e) = X (ix6 bb 1 h 0 (rowH i r) e))
    (H2 : ∀ (h : Fin 8) (r : Fin 2048) (e : Fin 128), x2 (ix6 0 0 h 0 r e) = X (ix6 bb 2 h 0 (rowH i r) e))
    (H3 : ∀ (h : Fin 8) (r : Fin 128) (e : Fin 128), (i 1).val ≠ 0 → x3 (ix6 0 0 h 0 r e) = X (ix6 bb 1 h 0 (rowB i r) e))
    (H4 : ∀ (h : Fin 8) (r : Fin 128) (e : Fin 128), (i 1).val ≠ 0 → x4 (ix6 0 0 h 0 r e) = X (ix6 bb 2 h 0 (rowB i r) e))

/-- What the body leaves at a place of the first result's block. -/
abbrev goal5 (y : S1x8x2048x128.Idx) : EReal :=
  Cert.Attn.attnO X bb (y 1) ⟨(i 1).val * 16 + (y 2).val / 128, by have h : (i 1).val < 2 := (i 1).isLt; have h : (y 2).val < 2048 := (y 2).isLt; omega⟩
    ⟨(y 2).val % 128, by omega⟩ (y 3)

/-- What the body leaves at a place of the second result's block. -/
abbrev goal6 (y : S1x1x2048x128.Idx) : EReal :=
  Cert.Attn.stat X bb ⟨(i 1).val * 16 + (y 2).val / 128, by have h : (i 1).val < 2 := (i 1).isLt; have h : (y 2).val < 2048 := (y 2).isLt; omega⟩
    ⟨(y 2).val % 128, by omega⟩ (y 3)

/-- The block of queries that starts at row `o` of the half. -/
abbrev blockN (o : ℕ) (ho : o < 2048) : Fin 32 := ⟨(i 1).val * 16 + o / 128, by have h : (i 1).val < 2 := (i 1).isLt; omega⟩

include H0 H1 H2 in
/-- What a block behind the first one reads. -/
theorem reads_rest (hh o : ℕ) (h8 : hh < 8) (ho : 128 ≤ o ∧ o < 1921 ∧ o % 128 = 0)
    (q : Vec Ideal S1x1x1x1x128x128 .bf16) (k v : FVec Ideal S256x128 .bf16)
    (hq : ∀ r e : Fin 128, q (ix6 0 0 0 0 r e) = x0 (ix6 0 0 ⟨hh, h8⟩ 0 ⟨o + r.val, by omega⟩ e))
    (hk : ∀ (j : Fin 256) (e : Fin 128), k (ix2 j e) = x1 (ix6 0 0 ⟨hh, h8⟩ 0 ⟨o - 128 + j.val, by omega⟩ e))
    (hv : ∀ (j : Fin 256) (e : Fin 128), v (ix2 j e) = x2 (ix6 0 0 ⟨hh, h8⟩ 0 ⟨o - 128 + j.val, by omega⟩ e)) :
    (∀ r e : Fin 128, q (ix6 0 0 0 0 r e) = X (ix6 bb 0 ⟨hh, h8⟩ 0 (rowQ (blockN i o (by omega)) r) e))
    ∧ (∀ (j : Fin 256) (e : Fin 128), k (ix2 j e) = X (ix6 bb 1 ⟨hh, h8⟩ 0 (rowK (blockN i o (by omega)) j) e))
    ∧ (∀ (j : Fin 256) (e : Fin 128), v (ix2 j e) = X (ix6 bb 2 ⟨hh, h8⟩ 0 (rowK (blockN i o (by omega)) j) e)) := by
  have hi : (i 1).val < 2 := (i 1).isLt
  refine ⟨fun r e => ?_, fun j e => ?_, fun j e => ?_⟩
  · rw [hq, H0]; blk_ext
  · rw [hk, H1]; blk_ext
  · rw [hv, H2]; blk_ext

include H0 H1 H2 H3 H4 in
/-- What the first block reads. -/
theorem reads_first (hh : ℕ) (h8 : hh < 8) (q : Vec Ideal S1x1x1x1x128x128 .bf16) (k v : FVec Ideal S256x128 .bf16)
    (hq : ∀ r e : Fin 128, q (ix6 0 0 0 0 r e) = x0 (ix6 0 0 ⟨hh, h8⟩ 0 ⟨r.val, by omega⟩ e))
    (hk : ∀ (j : Fin 256) (e : Fin 128), k (ix2 j e) = if hj : j.val < 128 then x3 (ix6 0 0 ⟨hh, h8⟩ 0 ⟨j.val, hj⟩ e) else x1 (ix6 0 0 ⟨hh, h8⟩ 0 ⟨j.val - 128, by omega⟩ e))
    (hv : ∀ (j : Fin 256) (e : Fin 128), v (ix2 j e) = if hj : j.val < 128 then x4 (ix6 0 0 ⟨hh, h8⟩ 0 ⟨j.val, hj⟩ e) else x2 (ix6 0 0 ⟨hh, h8⟩ 0 ⟨j.val - 128, by omega⟩ e)) :
    (∀ r e : Fin 128, q (ix6 0 0 0 0 r e) = X (ix6 bb 0 ⟨hh, h8⟩ 0 (rowQ (blockN i 0 (by omega)) r) e))
    ∧ (∀ (j : Fin 256) (e : Fin 128), ((blockN i 0 (by omega)).val = 0 → 128 ≤ j.val) → k (ix2 j e) = X (ix6 bb 1 ⟨hh, h8⟩ 0 (rowK (blockN i 0 (by omega)) j) e))
    ∧ (∀ (j : Fin 256) (e : Fin 128), ((blockN i 0 (by omega)).val = 0 → 128 ≤ j.val) → v (ix2 j e) = X (ix6 bb 2 ⟨hh, h8⟩ 0 (rowK (blockN i 0 (by omega)) j) e)) := by
  have hi : (i 1).val < 2 := (i 1).isLt
  refine ⟨fun r e => ?_, fun j e hn => ?_, fun j e hn => ?_⟩
  · rw [hq, H0]; blk_ext
  · rw [hk]
    by_cases hj : j.val < 128
    · rw [dif_pos hj, H3 _ _ _ (by dsimp only at hn; omega)]; blk_ext
    · rw [dif_neg hj, H1]; blk_ext
  · rw [hv]
    by_cases hj : j.val < 128
    · rw [dif_pos hj, H4 _ _ _ (by dsimp only at hn; omega)]; blk_ext
    · rw [dif_neg hj, H2]; blk_ext

/-- An index of a block is its row and its column. -/
theorem idx_block (x : S1x1x128x128.Idx) : x = ix4 0 0 (x 2) (x 3) := by
  funext d
  match d with
  | 0 => exact Fin.ext (by have h : (x 0).val < 1 := (x 0).isLt; show (x 0).val = 0; omega)
  | 1 => exact Fin.ext (by have h : (x 1).val < 1 := (x 1).isLt; show (x 1).val = 0; omega)
  | 2 => rfl
  | 3 => rfl

include H0 H1 H2 in
/-- A block of queries behind the first one. -/
theorem piece_rest (y : S1x8x2048x128.Idx) (x : S1x1x128x128.Idx) (x1_lt : (x 1).val < 1) (x2_lt : (x 2).val < 128) (hh o : ℕ)
    (h1 : (y 1).val = hh + (x 1).val) (h2 : (y 2).val = o + (x 2).val) (h3 : (y 3).val = (x 3).val) (h8 : hh < 8) (ho : 128 ≤ o ∧ o < 1921 ∧ o % 128 = 0)
    (q : Vec Ideal S1x1x1x1x128x128 .bf16) (k v : FVec Ideal S256x128 .bf16)
    (hq : ∀ r e : Fin 128, q (ix6 0 0 0 0 r e) = x0 (ix6 0 0 ⟨hh, h8⟩ 0 ⟨o + r.val, by omega⟩ e))
    (hk : ∀ (j : Fin 256) (e : Fin 128), k (ix2 j e) = x1 (ix6 0 0 ⟨hh, h8⟩ 0 ⟨o - 128 + j.val, by omega⟩ e))
    (hv : ∀ (j : Fin 256) (e : Fin 128), v (ix2 j e) = x2 (ix6 0 0 ⟨hh, h8⟩ 0 ⟨o - 128 + j.val, by omega⟩ e)) :
    tileO k0_pay2 q k v x = goal5 i bb X y := by
  have hi : (i 1).val < 2 := (i 1).isLt
  have e1 : y 1 = (⟨hh, h8⟩ : Fin 8) := Fin.ext (by show (y 1).val = hh; omega)
  have e3 : y 3 = x 3 := Fin.ext h3
  obtain ⟨rq, rk, rv⟩ := reads_rest i bb X x0 x1 x2 H0 H1 H2 hh o h8 ho q k v hq hk hv
  refine (congrArg (tileO k0_pay2 q k v) (idx_block x)).trans ((tileO_spec X bb ⟨hh, h8⟩ (blockN i o (by omega)) k0_pay2 q k v
    (bias_rest _ (by show (i 1).val * 16 + o / 128 ≠ 0; omega)) rq (fun j e _ => rk j e) (fun j e _ => rv j e) (x 2) (x 3)).trans ?_)
  unfold goal5
  rw [e1, e3]
  congr 1 <;> exact Fin.ext (by simp only []; omega)

include H0 H1 H2 H3 H4 in
/-- The first block of queries. -/
theorem piece_first (y : S1x8x2048x128.Idx) (x : S1x1x128x128.Idx) (x1_lt : (x 1).val < 1) (x2_lt : (x 2).val < 128) (hh : ℕ)
    (h1 : (y 1).val = hh + (x 1).val) (h2 : (y 2).val = (x 2).val) (h3 : (y 3).val = (x 3).val) (h8 : hh < 8)
    (q : Vec Ideal S1x1x1x1x128x128 .bf16) (k v : FVec Ideal S256x128 .bf16)
    (hq : ∀ r e : Fin 128, q (ix6 0 0 0 0 r e) = x0 (ix6 0 0 ⟨hh, h8⟩ 0 ⟨r.val, by omega⟩ e))
    (hk : ∀ (j : Fin 256) (e : Fin 128), k (ix2 j e) = if hj : j.val < 128 then x3 (ix6 0 0 ⟨hh, h8⟩ 0 ⟨j.val, hj⟩ e) else x1 (ix6 0 0 ⟨hh, h8⟩ 0 ⟨j.val - 128, by omega⟩ e))
    (hv : ∀ (j : Fin 256) (e : Fin 128), v (ix2 j e) = if hj : j.val < 128 then x4 (ix6 0 0 ⟨hh, h8⟩ 0 ⟨j.val, hj⟩ e) else x2 (ix6 0 0 ⟨hh, h8⟩ 0 ⟨j.val - 128, by omega⟩ e)) :
    tileO (k0_pay3 i) q k v x = goal5 i bb X y := by
  have hi : (i 1).val < 2 := (i 1).isLt
  have e1 : y 1 = (⟨hh, h8⟩ : Fin 8) := Fin.ext (by show (y 1).val = hh; omega)
  have e3 : y 3 = x 3 := Fin.ext h3
  obtain ⟨rq, rk, rv⟩ := reads_first i bb X x0 x1 x2 x3 x4 H0 H1 H2 H3 H4 hh h8 q k v hq hk hv
  refine (congrArg (tileO (k0_pay3 i) q k v) (idx_block x)).trans ((tileO_spec X bb ⟨hh, h8⟩ (blockN i 0 (by omega)) (k0_pay3 i) q k v
    (bias_first i _ rfl) rq rk rv (x 2) (x 3)).trans ?_)
  unfold goal5
  rw [e1, e3]
  congr 1 <;> exact Fin.ext (by simp only []; omega)

/-- The second result with the first `h` heads filled in. -/
def upto (N : Fin 32) (h : ℕ) (r ℓ : Fin 128) : EReal :=
  if hm : ℓ.val < h ∧ ℓ.val < 8 then Cert.Attn.attnM X bb ⟨ℓ.val, hm.2⟩ N r
  else if hl : 8 ≤ ℓ.val ∧ ℓ.val - 8 < h ∧ ℓ.val - 8 < 8 then Cert.Attn.attnL X bb ⟨ℓ.val - 8, hl.2.2⟩ N r else 0

/-- One more head fills in one more lane of each kind. -/
theorem upto_succ (N : Fin 32) (h : ℕ) (h8 : h < 8) (r ℓ : Fin 128) :
    (if ℓ.val = 8 + h then Cert.Attn.attnL X bb ⟨h, h8⟩ N r
      else if ℓ.val = h then Cert.Attn.attnM X bb ⟨h, h8⟩ N r else upto bb X N h r ℓ) = upto bb X N (h + 1) r ℓ := by
  unfold upto
  by_cases a : ℓ.val = 8 + h
  · rw [if_pos a, dif_neg (by omega), dif_pos (by omega)]
    congr 1; exact Fin.ext (by show h = ℓ.val - 8; omega)
  · rw [if_neg a]
    by_cases b : ℓ.val = h
    · rw [if_pos b, dif_pos (by omega)]
      congr 1; exact Fin.ext b.symm
    · rw [if_neg b]
      by_cases c : ℓ.val < h ∧ ℓ.val < 8
      · rw [dif_pos c, dif_pos (by omega)]
      · have c' : ¬(ℓ.val < h + 1 ∧ ℓ.val < 8) := by omega
        rw [dif_neg c, dif_neg c']
        by_cases d : 8 ≤ ℓ.val ∧ ℓ.val - 8 < h ∧ ℓ.val - 8 < 8
        · rw [dif_pos d, dif_pos (by omega)]
        · have d' : ¬(8 ≤ ℓ.val ∧ ℓ.val - 8 < h + 1 ∧ ℓ.val - 8 < 8) := by omega
          rw [dif_neg d, dif_neg d']

/-- Before the first head there are zeros. -/
theorem stat_start (N : Fin 32) (r ℓ : Fin 128) : k0_pay5 (F := Ideal) (ix2 r ℓ) = upto bb X N 0 r ℓ := by
  unfold upto
  rw [dif_neg (by omega), dif_neg (by omega)]
  pointwise [k0_pay5]

/-- After eight heads every lane is filled in. -/
theorem upto_eight (N : Fin 32) (r ℓ : Fin 128) : upto bb X N 8 r ℓ = Cert.Attn.stat X bb N r ℓ := by
  unfold upto Cert.Attn.stat
  by_cases c : ℓ.val < 8
  · rw [dif_pos c, dif_pos ⟨c, c⟩]
  · rw [dif_neg c, dif_neg (fun h => c h.1)]
    by_cases d : ℓ.val - 8 < 8
    · rw [dif_pos d, dif_pos ⟨by omega, d, d⟩]
    · rw [dif_neg d, dif_neg (fun h => d h.2.1)]

/-- After the last head the block is complete. -/
theorem stat_end (y : S1x1x2048x128.Idx) (x : S1x1x128x128.Idx) (x2_lt : (x 2).val < 128) (o : ℕ) (h2 : (y 2).val = o + (x 2).val)
    (h3 : (y 3).val = (x 3).val) (ho : o < 1921 ∧ o % 128 = 0) (T : FVec Ideal S128x128 .f32)
    (hT : ∀ r ℓ, T (ix2 r ℓ) = upto bb X (blockN i o (by omega)) 8 r ℓ) : k0_pay1 T x = goal6 i bb X y := by
  have hi : (i 1).val < 2 := (i 1).isLt
  have e3 : y 3 = x 3 := Fin.ext h3
  have hc : ∀ r ℓ : Fin 128, k0_pay1 T (ix4 0 0 r ℓ) = T (ix2 r ℓ) := fun r ℓ => by pointwise [k0_pay1]
  refine (congrArg (k0_pay1 T) (idx_block x)).trans ((hc (x 2) (x 3)).trans ((hT (x 2) (x 3)).trans ((upto_eight bb X _ (x 2) (x 3)).trans ?_)))
  unfold goal6
  rw [e3]
  congr 1 <;> exact Fin.ext (by simp only []; omega)

include H0 H1 H2 in
/-- One more head of a block behind the first one. -/
theorem step_rest (hh o : ℕ) (h8 : hh < 8) (ho : 128 ≤ o ∧ o < 1921 ∧ o % 128 = 0) (ho' : o < 2048) (a c : BitVec 32)
    (q : Vec Ideal S1x1x1x1x128x128 .bf16) (k v : FVec Ideal S256x128 .bf16) (prev : FVec Ideal S128x128 .f32)
    (ha : a = BitVec.ofNat 32 hh) (hc : c = BitVec.ofNat 32 (8 + hh))
    (hq : ∀ r e : Fin 128, q (ix6 0 0 0 0 r e) = x0 (ix6 0 0 ⟨hh, h8⟩ 0 ⟨o + r.val, by omega⟩ e))
    (hk : ∀ (j : Fin 256) (e : Fin 128), k (ix2 j e) = x1 (ix6 0 0 ⟨hh, h8⟩ 0 ⟨o - 128 + j.val, by omega⟩ e))
    (hv : ∀ (j : Fin 256) (e : Fin 128), v (ix2 j e) = x2 (ix6 0 0 ⟨hh, h8⟩ 0 ⟨o - 128 + j.val, by omega⟩ e))
    (hp : ∀ r ℓ, prev (ix2 r ℓ) = upto bb X (blockN i o ho') hh r ℓ) (r ℓ : Fin 128) :
    tileT lanes a c k0_pay2 q k v prev (ix2 r ℓ) = upto bb X (blockN i o ho') (hh + 1) r ℓ := by
  obtain ⟨rq, rk, rv⟩ := reads_rest i bb X x0 x1 x2 H0 H1 H2 hh o h8 ho q k v hq hk hv
  rw [tileT_spec X bb ⟨hh, h8⟩ (blockN i o ho') k0_pay2 q k v (bias_rest _ (by show (i 1).val * 16 + o / 128 ≠ 0; omega)) rq (fun j e _ => rk j e)
    (fun j e _ => rv j e) a c ha hc prev r ℓ, hp]
  exact upto_succ bb X _ hh h8 r ℓ

include H0 H1 H2 H3 H4 in
/-- One more head of the first block. -/
theorem step_first (hh : ℕ) (h8 : hh < 8) (ho' : 0 < 2048) (a c : BitVec 32)
    (q : Vec Ideal S1x1x1x1x128x128 .bf16) (k v : FVec Ideal S256x128 .bf16) (prev : FVec Ideal S128x128 .f32)
    (ha : a = BitVec.ofNat 32 hh) (hc : c = BitVec.ofNat 32 (8 + hh))
    (hq : ∀ r e : Fin 128, q (ix6 0 0 0 0 r e) = x0 (ix6 0 0 ⟨hh, h8⟩ 0 ⟨r.val, by omega⟩ e))
    (hk : ∀ (j : Fin 256) (e : Fin 128), k (ix2 j e) = if hj : j.val < 128 then x3 (ix6 0 0 ⟨hh, h8⟩ 0 ⟨j.val, hj⟩ e) else x1 (ix6 0 0 ⟨hh, h8⟩ 0 ⟨j.val - 128, by omega⟩ e))
    (hv : ∀ (j : Fin 256) (e : Fin 128), v (ix2 j e) = if hj : j.val < 128 then x4 (ix6 0 0 ⟨hh, h8⟩ 0 ⟨j.val, hj⟩ e) else x2 (ix6 0 0 ⟨hh, h8⟩ 0 ⟨j.val - 128, by omega⟩ e))
    (hp : ∀ r ℓ, prev (ix2 r ℓ) = upto bb X (blockN i 0 ho') hh r ℓ) (r ℓ : Fin 128) :
    tileT lanes a c (k0_pay3 i) q k v prev (ix2 r ℓ) = upto bb X (blockN i 0 ho') (hh + 1) r ℓ := by
  obtain ⟨rq, rk, rv⟩ := reads_first i bb X x0 x1 x2 x3 x4 H0 H1 H2 H3 H4 hh h8 q k v hq hk hv
  rw [tileT_spec X bb ⟨hh, h8⟩ (blockN i 0 ho') (k0_pay3 i) q k v (bias_first i _ rfl) rq rk rv a c ha hc prev r ℓ, hp]
  exact upto_succ bb X _ hh h8 r ℓ

end

end Cert.KernelIdeal.Attn

end
-- ==== Proof.Attn.Out.lean ====
module

public import proofs.«01_k».proof.Proof.Gen.KernelIdeal.Frame
public import proofs.«01_k».proof.Proof.Attn.Piece
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.KernelIdeal.Attn

open Cert.KernelIdeal Cert.KernelIdeal.Gen

set_option maxHeartbeats 0 in
/-- What the body leaves in the first result's buffer. -/
theorem out5 (i : grid0.Coords) (bb : Fin 8) (X : FVec Ideal Cert.Attn.SQKV .bf16)
    (x0 x1 x2 : Vec Ideal S1x1x8x1x2048x128 .bf16) (x3 x4 : Vec Ideal S1x1x8x1x128x128 .bf16)
    (H0 : ∀ (h : Fin 8) (r : Fin 2048) (e : Fin 128), x0 (ix6 0 0 h 0 r e) = X (ix6 bb 0 h 0 (rowH i r) e))
    (H1 : ∀ (h : Fin 8) (r : Fin 2048) (e : Fin 128), x1 (ix6 0 0 h 0 r e) = X (ix6 bb 1 h 0 (rowH i r) e))
    (H2 : ∀ (h : Fin 8) (r : Fin 2048) (e : Fin 128), x2 (ix6 0 0 h 0 r e) = X (ix6 bb 2 h 0 (rowH i r) e))
    (H3 : ∀ (h : Fin 8) (r : Fin 128) (e : Fin 128), (i 1).val ≠ 0 → x3 (ix6 0 0 h 0 r e) = X (ix6 bb 1 h 0 (rowB i r) e))
    (H4 : ∀ (h : Fin 8) (r : Fin 128) (e : Fin 128), (i 1).val ≠ 0 → x4 (ix6 0 0 h 0 r e) = X (ix6 bb 2 h 0 (rowB i r) e))
    (y : S1x8x2048x128.Idx) : out0_5 i x0 x1 x2 x3 x4 y = goal5 i bb X y := by
  unfold_out out0_5
  canon_tiles x h
  all_goals first
    | refine piece_rest i bb X x0 x1 x2 H0 H1 H2 y x x1_lt x2_lt _ _ h1 h2 h3 (by decide) (by decide) _ _ _ ?_ ?_ ?_
    | refine piece_rest i bb X x0 x1 x2 H0 H1 H2 y x x1_lt x2_lt 0 _ (h1.trans (Nat.zero_add _).symm) h2 h3 (by decide) (by decide) _ _ _ ?_ ?_ ?_
    | refine piece_first i bb X x0 x1 x2 x3 x4 H0 H1 H2 H3 H4 y x x1_lt x2_lt _ h1 h2 h3 (by decide) _ _ _ ?_ ?_ ?_
    | refine piece_first i bb X x0 x1 x2 x3 x4 H0 H1 H2 H3 H4 y x x1_lt x2_lt 0 (h1.trans (Nat.zero_add _).symm) h2 h3 (by decide) _ _ _ ?_ ?_ ?_
  all_goals (intro r e; first | (pointwise []; done) | (open_payloads; pointwise []; done))

end Cert.KernelIdeal.Attn

end
-- ==== Proof.Attn.Stat.lean ====
module

public import proofs.«01_k».proof.Proof.Gen.KernelIdeal.Frame
public import proofs.«01_k».proof.Proof.Attn.Piece
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.KernelIdeal.Attn

open Cert.KernelIdeal Cert.KernelIdeal.Gen

set_option maxHeartbeats 0 in
/-- What the body leaves in the second result's buffer. -/
theorem out6 (i : grid0.Coords) (bb : Fin 8) (X : FVec Ideal Cert.Attn.SQKV .bf16)
    (x0 x1 x2 : Vec Ideal S1x1x8x1x2048x128 .bf16) (x3 x4 : Vec Ideal S1x1x8x1x128x128 .bf16)
    (H0 : ∀ (h : Fin 8) (r : Fin 2048) (e : Fin 128), x0 (ix6 0 0 h 0 r e) = X (ix6 bb 0 h 0 (rowH i r) e))
    (H1 : ∀ (h : Fin 8) (r : Fin 2048) (e : Fin 128), x1 (ix6 0 0 h 0 r e) = X (ix6 bb 1 h 0 (rowH i r) e))
    (H2 : ∀ (h : Fin 8) (r : Fin 2048) (e : Fin 128), x2 (ix6 0 0 h 0 r e) = X (ix6 bb 2 h 0 (rowH i r) e))
    (H3 : ∀ (h : Fin 8) (r : Fin 128) (e : Fin 128), (i 1).val ≠ 0 → x3 (ix6 0 0 h 0 r e) = X (ix6 bb 1 h 0 (rowB i r) e))
    (H4 : ∀ (h : Fin 8) (r : Fin 128) (e : Fin 128), (i 1).val ≠ 0 → x4 (ix6 0 0 h 0 r e) = X (ix6 bb 2 h 0 (rowB i r) e))
    (y : S1x1x2048x128.Idx) : out0_6 i x0 x1 x2 x3 x4 y = goal6 i bb X y := by
  have hl : (i 2).val = 0 := by have h : (i 2).val < 1 := (i 2).isLt; omega
  unfold_out out0_6
  canon_tiles x h
  all_goals first
    | refine stat_end i bb X y x x2_lt _ h2 h3 (by decide) _ ?_
    | refine stat_end i bb X y x x2_lt 0 (h2.trans (Nat.zero_add _).symm) h3 (by decide) _ ?_
  case piece15 =>
    iterate 8
      refine step_first i bb X x0 x1 x2 x3 x4 H0 H1 H2 H3 H4 _ (by decide) _ _ _ _ _ _ _ ?_ ?_ ?_ ?_ ?_ ?_
      · rw [hl]; first | done | rfl
      · rw [hl]; first | done | rfl
      · intro r e; pointwise []
      · intro r e; first | (pointwise []; done) | (open_payloads; pointwise []; done)
      · intro r e; first | (pointwise []; done) | (open_payloads; pointwise []; done)
    exact stat_start bb X _
  all_goals
    iterate 8
      refine step_rest i bb X x0 x1 x2 H0 H1 H2 _ _ (by decide) (by decide) _ _ _ _ _ _ _ ?_ ?_ ?_ ?_ ?_ ?_
      · rw [hl]; first | done | rfl
      · rw [hl]; first | done | rfl
      · intro r e; pointwise []
      · intro r e; first | (pointwise []; done) | (open_payloads; pointwise []; done)
      · intro r e; first | (pointwise []; done) | (open_payloads; pointwise []; done)
    exact stat_start bb X _

end Cert.KernelIdeal.Attn

end
-- ==== Proof.Attn.Kernel.lean ====
module

public import proofs.«01_k».proof.Proof.Attn.Out
public import proofs.«01_k».proof.Proof.Attn.Stat
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen

variable (m : (ℓ : Loc nD τ sig) → Buf (Elt Ideal) ℓ)

/-- Which block each window shows at a grid point: the point's sequence and half, and the block before the half. -/
theorem idx : ∀ t : Fin cfg0.N, win0_0.index t = ![t.val / 2, 0, 0, 0, t.val % 2, 0] ∧ win0_1.index t = ![t.val / 2, 1, 0, 0, t.val % 2, 0]
    ∧ win0_2.index t = ![t.val / 2, 2, 0, 0, t.val % 2, 0] ∧ win0_3.index t = ![t.val / 2, 1, 0, 0, t.val % 2 * 16 - 1, 0]
    ∧ win0_4.index t = ![t.val / 2, 2, 0, 0, t.val % 2 * 16 - 1, 0] ∧ win0_5.index t = ![t.val / 2, 0, t.val % 2, 0]
    ∧ win0_6.index t = ![t.val / 2, 0, t.val % 2, 0] ∧ (grid0.coords t 1).val = t.val % 2 :=
  (by decide +kernel : ∀ t : Fin grid0.N, _)

/-- A grid point's sequence. -/
abbrev seqOf (t : Fin cfg0.N) : Fin 8 := ⟨t.val / 2, by have h := t.isLt; have h' : cfg0.N = 16 := rfl; omega⟩

/-- The queries of a half. -/
theorem read0 (c : Dev nD) (t : Fin cfg0.N) (h : Fin 8) (r : Fin 2048) (e : Fin 128) :
    (show FVec Ideal S1x1x8x1x2048x128 .bf16 from iblk m c 0 t) (ix6 0 0 h 0 r e)
      = (m ((c : Thread nD τ).loc main_arg0)) (ix6 (seqOf t) 0 h 0 (rowH (grid0.coords t) r) e) := by
  have hi : (grid0.coords t 1).val = t.val % 2 := (idx t).2.2.2.2.2.2.2
  blk_point [iblk, V, idx t]

/-- The keys of a half. -/
theorem read1 (c : Dev nD) (t : Fin cfg0.N) (h : Fin 8) (r : Fin 2048) (e : Fin 128) :
    (show FVec Ideal S1x1x8x1x2048x128 .bf16 from iblk m c 1 t) (ix6 0 0 h 0 r e)
      = (m ((c : Thread nD τ).loc main_arg0)) (ix6 (seqOf t) 1 h 0 (rowH (grid0.coords t) r) e) := by
  have hi : (grid0.coords t 1).val = t.val % 2 := (idx t).2.2.2.2.2.2.2
  blk_point [iblk, V, idx t]

/-- The values of a half. -/
theorem read2 (c : Dev nD) (t : Fin cfg0.N) (h : Fin 8) (r : Fin 2048) (e : Fin 128) :
    (show FVec Ideal S1x1x8x1x2048x128 .bf16 from iblk m c 2 t) (ix6 0 0 h 0 r e)
      = (m ((c : Thread nD τ).loc main_arg0)) (ix6 (seqOf t) 2 h 0 (rowH (grid0.coords t) r) e) := by
  have hi : (grid0.coords t 1).val = t.val % 2 := (idx t).2.2.2.2.2.2.2
  blk_point [iblk, V, idx t]

/-- The keys of the block before a half. -/
theorem read3 (c : Dev nD) (t : Fin cfg0.N) (h : Fin 8) (r : Fin 128) (e : Fin 128) (ht : (grid0.coords t 1).val ≠ 0) :
    (show FVec Ideal S1x1x8x1x128x128 .bf16 from iblk m c 3 t) (ix6 0 0 h 0 r e)
      = (m ((c : Thread nD τ).loc main_arg0)) (ix6 (seqOf t) 1 h 0 (rowB (grid0.coords t) r) e) := by
  have hi : (grid0.coords t 1).val = t.val % 2 := (idx t).2.2.2.2.2.2.2
  blk_point [iblk, V, idx t]

/-- The values of the block before a half. -/
theorem read4 (c : Dev nD) (t : Fin cfg0.N) (h : Fin 8) (r : Fin 128) (e : Fin 128) (ht : (grid0.coords t 1).val ≠ 0) :
    (show FVec Ideal S1x1x8x1x128x128 .bf16 from iblk m c 4 t) (ix6 0 0 h 0 r e)
      = (m ((c : Thread nD τ).loc main_arg0)) (ix6 (seqOf t) 2 h 0 (rowB (grid0.coords t) r) e) := by
  have hi : (grid0.coords t 1).val = t.val % 2 := (idx t).2.2.2.2.2.2.2
  blk_point [iblk, V, idx t]

/-- The row of the sequence row `r` of a grid point's half is. -/
abbrev rowOf (t : Fin cfg0.N) (r : Fin 2048) : Fin 4096 := ⟨t.val % 2 * 2048 + r.val, by omega⟩

/-- The first result of the kernel is the reference's. -/
theorem final5 (c : Dev nD) : (dats m 0 c).arrAt 5 (cfgs 0).N
    = Cert.ReferenceIdeal.Read.val_main_v70 (F := Ideal) (m ((c : Thread nD τ).loc main_arg0)) := by
  refine (dats m 0 c).arrAt_eq_of_covers 5 _ (by decide +kernel) fun t _ y => ?_
  have hi : (grid0.coords t 1).val = t.val % 2 := (idx t).2.2.2.2.2.2.2
  blk_simp
  rw [after0_5]
  refine (out5 (grid0.coords t) (seqOf t) (m ((c : Thread nD τ).loc main_arg0)) (iblk m c 0 t) (iblk m c 1 t) (iblk m c 2 t) (iblk m c 3 t) (iblk m c 4 t)
    (read0 m c t) (read1 m c t) (read2 m c t) (read3 m c t) (read4 m c t) y).trans ?_
  idx_vars y
  refine Eq.trans ?_ (Eq.trans (Cert.ReferenceIdeal.Attn.o_at (m ((c : Thread nD τ).loc main_arg0)) (seqOf t) y1 (rowOf t y2) y3).symm ?_)
  · unfold goal5
    congr 1 <;> exact Fin.ext (by simp only [ix4_2]; omega)
  · blk_point [idx t]

/-- The second result of the kernel is the reference's. -/
theorem final6 (c : Dev nD) : (dats m 0 c).arrAt 6 (cfgs 0).N
    = Cert.ReferenceIdeal.Read.val_main_v71 (F := Ideal) (m ((c : Thread nD τ).loc main_arg0)) := by
  refine (dats m 0 c).arrAt_eq_of_covers 6 _ (by decide +kernel) fun t _ y => ?_
  have hi : (grid0.coords t 1).val = t.val % 2 := (idx t).2.2.2.2.2.2.2
  blk_simp
  rw [after0_6]
  refine (out6 (grid0.coords t) (seqOf t) (m ((c : Thread nD τ).loc main_arg0)) (iblk m c 0 t) (iblk m c 1 t) (iblk m c 2 t) (iblk m c 3 t) (iblk m c 4 t)
    (read0 m c t) (read1 m c t) (read2 m c t) (read3 m c t) (read4 m c t) y).trans ?_
  idx_vars y
  refine Eq.trans ?_ (Eq.trans (Cert.ReferenceIdeal.Attn.stat_at (m ((c : Thread nD τ).loc main_arg0)) (seqOf t) (rowOf t y2) y3).symm ?_)
  · unfold goal6
    congr 1 <;> exact Fin.ext (by simp only [ix4_2]; omega)
  · blk_point [idx t]

end Cert.KernelIdeal.Attn

end
-- ==== Proof.Ffn.Spec.lean ====
module

public import proofs.«01_k».proof.Proof.Gen.Reference2Ideal.Read
public import Idealize.ShloMosaic.Lib.Pointwise

@[expose] public section

set_option maxRecDepth 16384

noncomputable section

open Idealize.ShloMosaic Idealize.ShloMosaic.TcCoe Idealize.SL.Sem

/-! # The feed-forward layer, one row and one column at a time

What the layer puts at one place of its result, written over one row of the normalised input, the first
weight matrix and one column of the second. Both programs are brought to this form. -/

namespace Cert.Ffn

/-- One entry of the gate: the row against column `f` of the first half of the first weight. -/
def gateAt (h : Fin 1024 → EReal) (w : Fin 1024 → Fin 5632 → EReal) (f : Fin 2816) : EReal :=
  ∑ k : Fin 1024, h k * w k ⟨f.val, by omega⟩

/-- One entry of the value beside the gate: the row against column `f` of the second half. -/
def upAt (h : Fin 1024 → EReal) (w : Fin 1024 → Fin 5632 → EReal) (f : Fin 2816) : EReal :=
  ∑ k : Fin 1024, h k * w k ⟨2816 + f.val, by omega⟩

/-- One hidden entry: the gate times its logistic function, times the value beside it. -/
def hiddenAt (h : Fin 1024 → EReal) (w : Fin 1024 → Fin 5632 → EReal) (f : Fin 2816) : EReal :=
  gateAt h w f * Ideal.div 1 (1 + Ideal.exp (0 - gateAt h w f)) * upAt h w f

/-- One entry of the layer: the input plus half of the hidden row against a column of the second weight. -/
def outAt (x : EReal) (h : Fin 1024 → EReal) (w : Fin 1024 → Fin 5632 → EReal) (u : Fin 2816 → EReal) : EReal :=
  x + Ideal.ofBits .f32 0x3F000000#32 * ∑ f : Fin 2816, hiddenAt h w f * u f

/-- A sum over the 2816 hidden entries is the sum of its eleven chunks of 256, added from the left. -/
theorem sum_chunks (F : Fin 2816 → EReal) : ∑ f : Fin 2816, F f
    = ∑ x : Fin 256, F ⟨x.val, by omega⟩ + ∑ x : Fin 256, F ⟨256 + x.val, by omega⟩
    + ∑ x : Fin 256, F ⟨512 + x.val, by omega⟩ + ∑ x : Fin 256, F ⟨768 + x.val, by omega⟩
    + ∑ x : Fin 256, F ⟨1024 + x.val, by omega⟩ + ∑ x : Fin 256, F ⟨1280 + x.val, by omega⟩
    + ∑ x : Fin 256, F ⟨1536 + x.val, by omega⟩ + ∑ x : Fin 256, F ⟨1792 + x.val, by omega⟩
    + ∑ x : Fin 256, F ⟨2048 + x.val, by omega⟩ + ∑ x : Fin 256, F ⟨2304 + x.val, by omega⟩
    + ∑ x : Fin 256, F ⟨2560 + x.val, by omega⟩ := by
  rw [Fin.sum_univ_tiles 11 256 rfl F]
  have eleven : ∀ g : Fin 11 → EReal, ∑ j, g j
      = g 0 + g 1 + g 2 + g 3 + g 4 + g 5 + g 6 + g 7 + g 8 + g 9 + g 10 := fun g => by
    rw [Fin.sum_univ_castSucc, Fin.sum_univ_castSucc, Fin.sum_univ_castSucc, Fin.sum_univ_eight]
    rfl
  rw [eleven]
  simp only [Fin.val_zero, Nat.zero_mul, Nat.zero_add]
  rfl

end Cert.Ffn

namespace Cert.Reference2Ideal.Ffn

open Cert.Reference2Ideal Cert.Reference2Ideal.Read

/-- The reference's result at one place is the layer's entry there. -/
theorem res_at (x0 : FVec Ideal S8x4096x1024 .f32) (x1 : FVec Ideal S2x3x1024 .f32)
    (x2 : FVec Ideal S2x2x1024x5632 .f32) (x3 : FVec Ideal S2x2x2816x1024 .f32) (r : Fin 32768) (d : Fin 1024) :
    val_main_v28 (F := Ideal) x0 x1 x2 x3 (ix2 r d)
      = Cert.Ffn.outAt (x0 (ix3 ⟨r.val / 4096, by omega⟩ ⟨r.val % 4096, by omega⟩ d))
          (fun k => val_main_v18 (F := Ideal) x0 x1 (ix3 ⟨r.val / 4096, by omega⟩ ⟨r.val % 4096, by omega⟩ k))
          (fun k f => x2 (ix4 0 0 k f)) (fun f => x3 (ix4 0 0 f d)) := by
  pointwise [val_main_v28, val_main_v27, val_main_v26, val_main_v25, val_main_v24, val_main_v23, val_main_v22, val_main_v21, val_main_v20, val_main_v19, val_main_v5, val_main_v4, val_main_v3, val_main_v2, val_main_call0_v0, val_main_call0_v1, val_main_call0_v2, val_main_call0_v3, val_main_call0_v4, val_main_call0_v5, val_main_call0_cst, val_main_call0_cst_0, val_main_cst_0, val_main_cst_1, val_main_cst_2,
    Cert.Ffn.outAt, Cert.Ffn.hiddenAt, Cert.Ffn.gateAt, Cert.Ffn.upAt]
  simp only [zero_sub]

end Cert.Reference2Ideal.Ffn

end
-- ==== Proof.Ffn.Kernel.lean ====
module

public import proofs.«01_k».proof.Proof.Gen.Kernel2Ideal.Frame
public import proofs.«01_k».proof.Proof.Ffn.Spec
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel2Ideal.Ffn

open Cert.Kernel2Ideal Cert.Kernel2Ideal.Gen

variable (m : (ℓ : Loc nD τ sig) → Buf (Elt Ideal) ℓ)

/-- Which block each window shows at a grid point: the rows go with the point, the rest stays. -/
theorem idx : ∀ t : Fin cfg0.N, win0_0.index t = ![t.val, 0] ∧ win0_1.index t = ![0, 0]
    ∧ win0_2.index t = ![0, 0, 0, 0] ∧ win0_3.index t = ![0, 0, 0, 0] ∧ win0_4.index t = ![t.val, 0] :=
  (by decide +kernel : ∀ t : Fin grid0.N, _)

/-- What the second load of a row meets is the reference's normalised row. -/
theorem norm_at (c : Dev nD) (t : Fin cfg0.N) (r k : Fin 1024) :
    k0_pay3 (iblk m c 0 t) (iblk m c 1 t) (ix2 r k)
      = Cert.Reference2Ideal.Read.val_main_v18 (F := Ideal) (m ((c : Thread nD τ).loc main_arg0)) (m ((c : Thread nD τ).loc main_arg1))
          (ix3 ⟨(t.val * 1024 + r.val) / 4096, by have := t.isLt; have h : cfg0.N = 32 := rfl; omega⟩ ⟨(t.val * 1024 + r.val) % 4096, by omega⟩ k) := by
  open Cert.Reference2Ideal.Read in
  pointwise [k0_pay2, k0_pay3, val_main_v18, val_main_v17, val_main_v16, val_main_v15, val_main_v14, val_main_v13, val_main_v12, val_main_v11, val_main_v10, val_main_v9, val_main_v8, val_main_v7, val_main_v6, val_main_v1, val_main_v0, val_main_cst, val_main_cst_0, val_main_cst_1]
  blk_point [iblk, V, idx t]

/-- The first weight's block is the whole of its first matrix. -/
theorem win_at (c : Dev nD) (t : Fin cfg0.N) (k : Fin 1024) (f : Fin 5632) :
    (show FVec Ideal S1x1x1024x5632 .bf16 from iblk m c 2 t) (ix4 0 0 k f)
      = (m ((c : Thread nD τ).loc main_arg2)) (ix4 0 0 k f) := by
  blk_point [iblk, V, idx t]

/-- The second weight's block is the whole of its first matrix. -/
theorem wout_at (c : Dev nD) (t : Fin cfg0.N) (f : Fin 2816) (d : Fin 1024) :
    (show FVec Ideal S1x1x2816x1024 .bf16 from iblk m c 3 t) (ix4 0 0 f d)
      = (m ((c : Thread nD τ).loc main_arg3)) (ix4 0 0 f d) := by
  blk_point [iblk, V, idx t]

/-- The block of the input is its rows from `1024 t` on. -/
theorem x_at (c : Dev nD) (t : Fin cfg0.N) (r d : Fin 1024) :
    (show FVec Ideal S1024x1024 .f32 from iblk m c 0 t) (ix2 r d)
      = (m ((c : Thread nD τ).loc main_arg0)) (ix3 ⟨(t.val * 1024 + r.val) / 4096, by have := t.isLt; have h : cfg0.N = 32 := rfl; omega⟩ ⟨(t.val * 1024 + r.val) % 4096, by omega⟩ d) := by
  blk_point [iblk, V, idx t]

/-- The result array of the kernel is the reference's result, over the kernel's own arguments. -/
theorem final (c : Dev nD) : (dats m 0 c).arrAt 4 (cfgs 0).N
    = Cert.Reference2Ideal.Read.val_main_v28 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  rw [after0_4]
  unfold Gen.outsAt0
  frame_out
  idx_vars y
  have hlt : t.val < 32 := t.isLt
  have hH := fun k => norm_at m c t y0 k
  have hX := x_at m c t y0 y1
  have hW := win_at m c t
  have hU := fun f => wout_at m c t f y1
  revert hH hX hW hU
  generalize k0_pay3 (iblk m c 0 t) (iblk m c 1 t) = H
  generalize iblk m c 0 t = X
  generalize iblk m c 2 t = W
  generalize iblk m c 3 t = U
  intro hH hX hW hU
  dsimp only at hX hW hU
  pointwise [k0_pay1,k0_pay2,k0_pay4,k0_pay5,k0_pay6,k0_pay7,k0_pay8,k0_pay9,k0_pay10,k0_pay11,k0_pay12,k0_pay13,k0_pay14,k0_pay15,k0_pay16,k0_pay17,k0_pay18,k0_pay19,k0_pay20,k0_pay21,k0_pay22,k0_pay23,k0_pay24]
  refine Eq.trans ?_ (Eq.trans (Cert.Reference2Ideal.Ffn.res_at (m ((c : Thread nD τ).loc main_arg0)) (m ((c : Thread nD τ).loc main_arg1))
      (m ((c : Thread nD τ).loc main_arg2)) (m ((c : Thread nD τ).loc main_arg3)) ⟨t.val * 1024 + y0.val, by omega⟩ y1).symm ?_)
  · unfold Cert.Ffn.outAt
    rw [Cert.Ffn.sum_chunks]
    unfold Cert.Ffn.hiddenAt Cert.Ffn.gateAt Cert.Ffn.upAt
    simp only [← hH, ← hX, ← hW, ← hU, ← Nat.add_assoc, Nat.reduceAdd]
  · blk_point [idx t]

end Cert.Kernel2Ideal.Ffn

end
-- ==== Proof.Merge.Weights.lean ====
module

public import Idealize.ShloMosaic.Lib.Pointwise

@[expose] public section

noncomputable section

open Idealize.ShloMosaic

/-! # The weights of three groups of keys

A softmax over the union of three groups of keys, from each group's maximum `m`, denominator `l` and numerators
applied to the values `o`: once with each group's output divided by its denominator and weighted by the softmax of
the log-denominators, once with one division by the common denominator. -/

namespace Cert.Merge

/-- Over the reals, whatever is subtracted in the exponents. -/
theorem weight_real (m l : Fin 3 → ℝ) (hl : ∀ g, 0 < l g) (t u : ℝ) (g : Fin 3) :
    Real.exp (m g - t) / (Real.exp (m 0 - t) * l 0 + Real.exp (m 1 - t) * l 1 + Real.exp (m 2 - t) * l 2)
      = Real.exp (m g + Real.log (l g) - u)
          / (Real.exp (m 0 + Real.log (l 0) - u) + Real.exp (m 1 + Real.log (l 1) - u) + Real.exp (m 2 + Real.log (l 2) - u))
          / l g := by
  have shift : ∀ k, Real.exp (m k + Real.log (l k) - u) = Real.exp (m k - t) * l k * Real.exp (t - u) := fun k => by
    rw [show m k + Real.log (l k) - u = (m k - t) + Real.log (l k) + (t - u) by ring, Real.exp_add, Real.exp_add,
      Real.exp_log (hl k)]
  have h := hl g
  have h0 := mul_pos (Real.exp_pos (m 0 - t)) (hl 0)
  have h1 := mul_pos (Real.exp_pos (m 1 - t)) (hl 1)
  have h2 := mul_pos (Real.exp_pos (m 2 - t)) (hl 2)
  have hs := Real.exp_pos (t - u)
  rw [shift, shift, shift, shift, ← add_mul, ← add_mul]
  field_simp

/-- A quotient of reals, the divisor positive. -/
theorem div_coe (a b : ℝ) (hb : 0 < b) : Ideal.div (a : EReal) (b : EReal) = ((a / b : ℝ) : EReal) := by
  unfold Ideal.div
  rw [if_neg (by exact_mod_cast hb.ne'), div_eq_mul_inv, EReal.coe_mul, EReal.coe_inv]

/-- One group's contribution at one place, in the one form and in the other. -/
theorem weight (m l : Fin 3 → EReal) (hm : ∀ g, ⊥ < m g ∧ m g < ⊤) (hl : ∀ g, 0 < l g ∧ l g < ⊤) (o : EReal) (g : Fin 3) :
    Ideal.div (Ideal.exp (m g - max (max (m 0) (m 1)) (m 2)))
        (Ideal.exp (m 0 - max (max (m 0) (m 1)) (m 2)) * l 0 + Ideal.exp (m 1 - max (max (m 0) (m 1)) (m 2)) * l 1
          + Ideal.exp (m 2 - max (max (m 0) (m 1)) (m 2)) * l 2) * o
      = Ideal.div (Ideal.exp (m g + Ideal.log (l g)
            - max (max (m 0 + Ideal.log (l 0)) (m 1 + Ideal.log (l 1))) (m 2 + Ideal.log (l 2))))
          (Ideal.exp (m 0 + Ideal.log (l 0) - max (max (m 0 + Ideal.log (l 0)) (m 1 + Ideal.log (l 1))) (m 2 + Ideal.log (l 2)))
            + Ideal.exp (m 1 + Ideal.log (l 1) - max (max (m 0 + Ideal.log (l 0)) (m 1 + Ideal.log (l 1))) (m 2 + Ideal.log (l 2)))
            + Ideal.exp (m 2 + Ideal.log (l 2) - max (max (m 0 + Ideal.log (l 0)) (m 1 + Ideal.log (l 1))) (m 2 + Ideal.log (l 2))))
          * Ideal.div o (l g) := by
  obtain ⟨m, rfl⟩ : ∃ m' : Fin 3 → ℝ, m = fun k => (m' k : EReal) :=
    ⟨fun k => (m k).toReal, funext fun k => (EReal.coe_toReal (hm k).2.ne (hm k).1.ne').symm⟩
  obtain ⟨l, rfl⟩ : ∃ l' : Fin 3 → ℝ, l = fun k => (l' k : EReal) :=
    ⟨fun k => (l k).toReal, funext fun k =>
      (EReal.coe_toReal (hl k).2.ne (ne_of_gt (lt_trans (EReal.bot_lt_coe 0) (hl k).1))).symm⟩
  have pos : ∀ k, 0 < l k := fun k => EReal.coe_pos.mp (hl k).1
  have hlog : ∀ k, Ideal.log (l k : EReal) = (Real.log (l k) : EReal) := fun k => if_neg (pos k).not_ge
  have hexp : ∀ r : ℝ, Ideal.exp (r : EReal) = (Real.exp r : EReal) := fun _ => rfl
  have hd : Ideal.div o (l g : EReal) = o * ((l g)⁻¹ : ℝ) := by
    unfold Ideal.div
    rw [if_neg (by exact_mod_cast (pos g).ne'), EReal.coe_inv]
  have hmax : ∀ a b : ℝ, max (a : EReal) (b : EReal) = ((max a b : ℝ) : EReal) := fun a b =>
    (EReal.coe_strictMono.monotone.map_max).symm
  simp only [hlog, hd, ← EReal.coe_add, hmax, ← EReal.coe_sub, hexp, ← EReal.coe_mul]
  rw [div_coe _ _ (by have := fun k => mul_pos (Real.exp_pos (m k - max (max (m 0) (m 1)) (m 2))) (pos k); exact add_pos (add_pos (this 0) (this 1)) (this 2)),
    div_coe _ _ (by positivity), weight_real m l pos _ (max (max (m 0 + Real.log (l 0)) (m 1 + Real.log (l 1))) (m 2 + Real.log (l 2))) g,
    div_eq_mul_inv, EReal.coe_mul, mul_assoc, mul_comm o]

end Cert.Merge

end
-- ==== Proof.Merge.Spec.lean ====
module

public import proofs.«01_k».proof.Proof.Gen.Reference3Ideal.Read
public import proofs.«01_k».proof.Proof.Ffn.Spec
public import proofs.«01_k».proof.Proof.Merge.Weights
public import Idealize.ShloMosaic.Lib.Pointwise

@[expose] public section

set_option maxRecDepth 16384

noncomputable section

open Idealize.ShloMosaic Idealize.ShloMosaic.TcCoe Idealize.SL.Sem

namespace Cert.Reference3Ideal.Merge

open Cert.Reference3Ideal Cert.Reference3Ideal.Read

/-- The statistics of the three groups at one token and one lane: the third group's are held in two arrays. -/
def stat (s1 s4 : FVec Ideal S8x1x4096x128 .f32) (s16 : FVec Ideal S8x2x4096x128 .f32) (b : Fin 8) (s : Fin 4096)
    (j : Fin 128) : Fin 3 → EReal :=
  ![s1 (ix4 b 0 s j), s4 (ix4 b 0 s j), s16 (ix4 b 0 s j) + s16 (ix4 b 1 s j)]

/-- The statistics stacked. -/
theorem stat_at (s1 s4 : FVec Ideal S8x1x4096x128 .f32) (s16 : FVec Ideal S8x2x4096x128 .f32) (g : Fin 3) (b : Fin 8)
    (s : Fin 4096) (j : Fin 128) : val_main_v6 (F := Ideal) s1 s4 s16 (ix4 g b s j) = stat s1 s4 s16 b s j g := by
  fin_cases g <;> dsimp only [Fin.zero_eta, Fin.mk_one, Fin.reduceFinMk] <;>
    pointwise [val_main_v6, val_main_v5, val_main_v4, val_main_v3, val_main_v2, val_main_v1, val_main_v0, val_main_cst, val_main_cst_0, val_main_cst_1]
  · exact Fin.sum_univ_one _
  · exact Fin.sum_univ_one _
  · exact Fin.sum_univ_two _

/-- A head's log-denominator. -/
theorem lse_at (s1 s4 : FVec Ideal S8x1x4096x128 .f32) (s16 : FVec Ideal S8x2x4096x128 .f32) (g : Fin 3) (b : Fin 8)
    (s : Fin 4096) (h : Fin 8) : val_main_v23 (F := Ideal) s1 s4 s16 (ix4 g b s h)
      = val_main_v6 (F := Ideal) s1 s4 s16 (ix4 g b s ⟨h.val, by omega⟩) + Ideal.log (val_main_v6 (F := Ideal) s1 s4 s16 (ix4 g b s ⟨8 + h.val, by omega⟩)) := by
  pointwise [val_main_v23, val_main_v22, val_main_v8, val_main_v7]

/-- A running maximum over three, from the least one. -/
theorem fold3 (y : Fin 3 → EReal) : Finset.univ.fold max (Ideal.ofBits .f32 0xFF800000#32) y = max (max (y 0) (y 1)) (y 2) := by
  rw [show (Finset.univ : Finset (Fin 3)) = {0, 1, 2} by decide]
  rw [Finset.fold_insert (by decide), Finset.fold_insert (by decide), Finset.fold_singleton]
  rw [show Ideal.ofBits .f32 0xFF800000#32 = ⊥ by simp [Ideal.ofBits, Ideal.ieee]]
  simp [max_assoc]

/-- The largest of the three groups, at one place. -/
theorem reduce3 (y : FVec Ideal S3x8x4096x8 .f32)
    (h' : S3x8x4096x8.ReducesTo [0] S8x4096x8) (hu : 0 < S_.numel) (b : Fin 8) (s : Fin 4096) (h : Fin 8) :
    Host.reduce (FloatOps.maximumf (F := Ideal) (φ := .f32)) y (val_main_cst_2 (F := Ideal)) h' hu (ix3 b s h)
      = max (max (y (ix4 0 b s h)) (y (ix4 1 b s h))) (y (ix4 2 b s h)) := by
  have hr : S3x8x4096x8.Reduces [0] S8x4096x8 := by decide
  have key : ∀ k : Fin 3, hr.lift (ix3 b s h) k = ix4 k b s h := by
    intro k
    funext a
    match a with
    | 0 => rfl
    | 1 => rfl
    | 2 => rfl
    | 3 => rfl
  rw [Host.reduce_eq_fold_single _ y _ _ hr]
  refine (fold3 (y ∘ hr.lift (ix3 b s h))).trans ?_
  exact congrArg₂ max (congrArg₂ max (congrArg y (key 0)) (congrArg y (key 1))) (congrArg y (key 2))

/-- The largest log-denominator. -/
theorem top_at (s1 s4 : FVec Ideal S8x1x4096x128 .f32) (s16 : FVec Ideal S8x2x4096x128 .f32) (b : Fin 8)
    (s : Fin 4096) (h : Fin 8) : val_main_v26 (F := Ideal) s1 s4 s16 (ix3 b s h)
      = max (max (val_main_v23 (F := Ideal) s1 s4 s16 (ix4 0 b s h)) (val_main_v23 (F := Ideal) s1 s4 s16 (ix4 1 b s h)))
        (val_main_v23 (F := Ideal) s1 s4 s16 (ix4 2 b s h)) := by
  rw [val_main_v26_apply, val_main_v25_apply, val_main_cst_3_apply]
  unfold val_main_v24
  rw [reduce3]
  refine (congrArg (fun z => max z _) (show Ideal.ofBits .f32 0xFF800000#32 = ⊥ by simp [Ideal.ofBits, Ideal.ieee])).trans ?_
  exact max_eq_right bot_le

/-- The softmax over the groups. -/
theorem softmax_at (s1 s4 : FVec Ideal S8x1x4096x128 .f32) (s16 : FVec Ideal S8x2x4096x128 .f32) (g : Fin 3) (b : Fin 8)
    (s : Fin 4096) (h : Fin 8) : val_main_v34 (F := Ideal) s1 s4 s16 (ix4 g b s h)
      = Ideal.div (Ideal.exp (val_main_v23 (F := Ideal) s1 s4 s16 (ix4 g b s h) - val_main_v26 (F := Ideal) s1 s4 s16 (ix3 b s h)))
          (∑ k : Fin 3, Ideal.exp (val_main_v23 (F := Ideal) s1 s4 s16 (ix4 k b s h) - val_main_v26 (F := Ideal) s1 s4 s16 (ix3 b s h))) := by
  pointwise [val_main_v34, val_main_v33, val_main_v32, val_main_v31, val_main_v30, val_main_v29, val_main_v28, val_main_v27, val_main_cst_4]

/-- The three groups' unnormalised outputs at one place. -/
def outs (o1 o4 o16 : FVec Ideal S8x8x4096x128 .bf16) (b : Fin 8) (h : Fin 8) (s : Fin 4096) (e : Fin 128) : Fin 3 → EReal :=
  ![o1 (ix4 b h s e), o4 (ix4 b h s e), o16 (ix4 b h s e)]

/-- A group's output over its denominator. -/
theorem outs_at (o1 o4 o16 : FVec Ideal S8x8x4096x128 .bf16) (s1 s4 : FVec Ideal S8x1x4096x128 .f32) (s16 : FVec Ideal S8x2x4096x128 .f32) (g : Fin 3) (b : Fin 8)
    (s : Fin 4096) (h : Fin 8) (e : Fin 128) : val_main_v21 (F := Ideal) o1 o4 o16 s1 s4 s16 (ix5 g b s h e)
      = Ideal.div (outs o1 o4 o16 b h s e g) (val_main_v6 (F := Ideal) s1 s4 s16 (ix4 g b s ⟨8 + h.val, by omega⟩)) := by
  fin_cases g <;> dsimp only [Fin.zero_eta, Fin.mk_one, Fin.reduceFinMk] <;>
  pointwise [val_main_v21, val_main_v20, val_main_v19, val_main_v8, val_main_v18, val_main_v17, val_main_v16, val_main_v15, val_main_v14, val_main_v13, val_main_v12, val_main_v11, val_main_v10, val_main_v9]
  all_goals rfl

/-- The mixed output: the groups' outputs by their weights. -/
theorem mix_at (o1 o4 o16 : FVec Ideal S8x8x4096x128 .bf16) (s1 s4 : FVec Ideal S8x1x4096x128 .f32) (s16 : FVec Ideal S8x2x4096x128 .f32) (b : Fin 8)
    (s : Fin 4096) (c : Fin 1024) : val_main_v36 (F := Ideal) o1 o4 o16 s1 s4 s16 (ix3 b s c)
      = ∑ g : Fin 3, val_main_v34 (F := Ideal) s1 s4 s16 (ix4 g b s ⟨c.val / 128, by omega⟩)
          * val_main_v21 (F := Ideal) o1 o4 o16 s1 s4 s16 (ix5 g b s ⟨c.val / 128, by omega⟩ ⟨c.val % 128, by omega⟩) := by
  pointwise [val_main_v36, val_main_v35]

/-- The residual row with the mixed output through its projection. -/
theorem row_at (x : FVec Ideal S8x4096x1024 .f32) (o1 o4 o16 : FVec Ideal S8x8x4096x128 .bf16) (s1 s4 : FVec Ideal S8x1x4096x128 .f32) (s16 : FVec Ideal S8x2x4096x128 .f32) (w : FVec Ideal S1x1024x1024 .f32) (b : Fin 8)
    (s : Fin 4096) (d : Fin 1024) : val_main_v39 (F := Ideal) x o1 o4 o16 s1 s4 s16 w (ix3 b s d)
      = x (ix3 b s d) + ∑ k : Fin 1024, val_main_v36 (F := Ideal) o1 o4 o16 s1 s4 s16 (ix3 b s k) * w (ix3 0 k d) := by
  pointwise [val_main_v39, val_main_v38, val_main_v37]

/-- The result at one place is the feed-forward layer's entry there. -/
theorem res_at (x : FVec Ideal S8x4096x1024 .f32) (o1 o4 o16 : FVec Ideal S8x8x4096x128 .bf16) (s1 s4 : FVec Ideal S8x1x4096x128 .f32) (s16 : FVec Ideal S8x2x4096x128 .f32) (w : FVec Ideal S1x1024x1024 .f32)
    (g : FVec Ideal S2x3x1024 .f32) (x2 : FVec Ideal S2x2x1024x5632 .f32) (x3 : FVec Ideal S2x2x2816x1024 .f32) (r : Fin 32768) (d : Fin 1024) :
    val_main_v68 (F := Ideal) x o1 o4 o16 s1 s4 s16 w g x2 x3 (ix2 r d)
      = Cert.Ffn.outAt (val_main_v39 (F := Ideal) x o1 o4 o16 s1 s4 s16 w (ix3 ⟨r.val / 4096, by omega⟩ ⟨r.val % 4096, by omega⟩ d))
          (fun k => val_main_v58 (F := Ideal) x o1 o4 o16 s1 s4 s16 w g (ix3 ⟨r.val / 4096, by omega⟩ ⟨r.val % 4096, by omega⟩ k))
          (fun k f => x2 (ix4 1 1 k f)) (fun f => x3 (ix4 1 1 f d)) := by
  pointwise [val_main_v68, val_main_v67, val_main_v66, val_main_v65, val_main_v64, val_main_v63, val_main_v62, val_main_v61, val_main_v60, val_main_v59, val_main_v45, val_main_v44, val_main_v43, val_main_v42, val_main_call0_v0, val_main_call0_v1, val_main_call0_v2, val_main_call0_v3, val_main_call0_v4, val_main_call0_v5, val_main_call0_cst, val_main_call0_cst_0, val_main_cst_8,
    Cert.Ffn.outAt, Cert.Ffn.hiddenAt, Cert.Ffn.gateAt, Cert.Ffn.upAt]
  simp only [zero_sub]

/-- The output of one head at one place as the kernel mixes it: the groups' weights against their largest maximum,
over the sum of the denominators at those weights, times the groups' unnormalised outputs. -/
def mixAt (m l o : Fin 3 → EReal) : EReal :=
  Ideal.div (Ideal.exp (m 0 - max (max (m 0) (m 1)) (m 2)))
      (Ideal.exp (m 0 - max (max (m 0) (m 1)) (m 2)) * l 0 + Ideal.exp (m 1 - max (max (m 0) (m 1)) (m 2)) * l 1
        + Ideal.exp (m 2 - max (max (m 0) (m 1)) (m 2)) * l 2) * o 0
    + Ideal.div (Ideal.exp (m 1 - max (max (m 0) (m 1)) (m 2)))
      (Ideal.exp (m 0 - max (max (m 0) (m 1)) (m 2)) * l 0 + Ideal.exp (m 1 - max (max (m 0) (m 1)) (m 2)) * l 1
        + Ideal.exp (m 2 - max (max (m 0) (m 1)) (m 2)) * l 2) * o 1
    + Ideal.div (Ideal.exp (m 2 - max (max (m 0) (m 1)) (m 2)))
      (Ideal.exp (m 0 - max (max (m 0) (m 1)) (m 2)) * l 0 + Ideal.exp (m 1 - max (max (m 0) (m 1)) (m 2)) * l 1
        + Ideal.exp (m 2 - max (max (m 0) (m 1)) (m 2)) * l 2) * o 2

/-- For finite maxima and finite positive denominators the reference's mixed output is the kernel's. -/
theorem mix_eq (o1 o4 o16 : FVec Ideal S8x8x4096x128 .bf16) (s1 s4 : FVec Ideal S8x1x4096x128 .f32)
    (s16 : FVec Ideal S8x2x4096x128 .f32) (b : Fin 8) (s : Fin 4096) (c : Fin 1024)
    (hm : ∀ g, ⊥ < stat s1 s4 s16 b s ⟨c.val / 128, by omega⟩ g ∧ stat s1 s4 s16 b s ⟨c.val / 128, by omega⟩ g < ⊤)
    (hl : ∀ g, 0 < stat s1 s4 s16 b s ⟨8 + c.val / 128, by omega⟩ g ∧ stat s1 s4 s16 b s ⟨8 + c.val / 128, by omega⟩ g < ⊤) :
    val_main_v36 (F := Ideal) o1 o4 o16 s1 s4 s16 (ix3 b s c)
      = mixAt (stat s1 s4 s16 b s ⟨c.val / 128, by omega⟩) (stat s1 s4 s16 b s ⟨8 + c.val / 128, by omega⟩)
          (outs o1 o4 o16 b ⟨c.val / 128, by omega⟩ s ⟨c.val % 128, by omega⟩) := by
  rw [mix_at, Fin.sum_univ_three]
  unfold mixAt
  rw [Cert.Merge.weight _ _ hm hl, Cert.Merge.weight _ _ hm hl, Cert.Merge.weight _ _ hm hl]
  simp only [softmax_at, top_at, lse_at, outs_at, stat_at, Fin.sum_univ_three]

end Cert.Reference3Ideal.Merge

end
-- ==== Proof.Merge.Tile.lean ====
module

public import proofs.«01_k».proof.Proof.Gen.Kernel3Ideal.Frame
public import proofs.«01_k».proof.Proof.Merge.Spec
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel3Ideal.Merge

open Cert.Kernel3Ideal Cert.Kernel3Ideal.Gen

/-- The first group's weight before it is normalised. -/
theorem pay5_at (v0 v2 v4 v6 : FVec Ideal S1x1x512x128 .f32) (r : Fin 512) (j : Fin 128) :
    k0_pay5 (F := Ideal) v0 v2 v4 v6 (ix2 r j) = Ideal.exp (v0 (ix4 0 0 r j) - max (max (v0 (ix4 0 0 r j)) (v2 (ix4 0 0 r j))) (v4 (ix4 0 0 r j) + v6 (ix4 0 0 r j))) := by
  pointwise [k0_pay5, k0_pay4, k0_pay3, k0_pay2, k0_pay1]
/-- The second group's weight before it is normalised. -/
theorem pay6_at (v0 v2 v4 v6 : FVec Ideal S1x1x512x128 .f32) (r : Fin 512) (j : Fin 128) :
    k0_pay6 (F := Ideal) v0 v2 v4 v6 (ix2 r j) = Ideal.exp (v2 (ix4 0 0 r j) - max (max (v0 (ix4 0 0 r j)) (v2 (ix4 0 0 r j))) (v4 (ix4 0 0 r j) + v6 (ix4 0 0 r j))) := by
  pointwise [k0_pay6, k0_pay4, k0_pay3, k0_pay2, k0_pay1]
/-- The third group's weight before it is normalised. -/
theorem pay7_at (v0 v2 v4 v6 : FVec Ideal S1x1x512x128 .f32) (r : Fin 512) (j : Fin 128) :
    k0_pay7 (F := Ideal) v0 v2 v4 v6 (ix2 r j) = Ideal.exp (v4 (ix4 0 0 r j) + v6 (ix4 0 0 r j) - max (max (v0 (ix4 0 0 r j)) (v2 (ix4 0 0 r j))) (v4 (ix4 0 0 r j) + v6 (ix4 0 0 r j))) := by
  pointwise [k0_pay7, k0_pay4, k0_pay3, k0_pay2, k0_pay1]
/-- The sum of the denominators at those weights, at a head's lane. -/
theorem pay9_at (v0 v2 v4 v6 : FVec Ideal S1x1x512x128 .f32) (r : Fin 512) (h : Fin 8) :
    k0_pay9 (F := Ideal) v0 v2 v4 v6 (ix2 r ⟨h.val, by omega⟩) =
      k0_pay5 (F := Ideal) v0 v2 v4 v6 (ix2 r ⟨h.val, by omega⟩) * v0 (ix4 0 0 r ⟨8 + h.val, by omega⟩)
      + k0_pay6 (F := Ideal) v0 v2 v4 v6 (ix2 r ⟨h.val, by omega⟩) * v2 (ix4 0 0 r ⟨8 + h.val, by omega⟩)
      + k0_pay7 (F := Ideal) v0 v2 v4 v6 (ix2 r ⟨h.val, by omega⟩) * (v4 (ix4 0 0 r ⟨8 + h.val, by omega⟩) + v6 (ix4 0 0 r ⟨8 + h.val, by omega⟩)) := by
  pointwise [k0_pay9, k0_pay8, k0_pay3, k0_pay2, k0_pay1]
  simp (disch := word_cmp_side) only [hlo_ix]
  rw [if_pos h.isLt]
  congr 3 <;> first | rfl | blk_ext

/-- The spreading matrix: a head's lane goes to its 128 columns. -/
theorem spread_at (j : Fin 128) (c : Fin 1024) :
    k0_pay12 (F := Ideal) (iota .tc S128x1024 32 [0] iota_S128x1024_d0_w32) (iota .tc S128x1024 32 [1] iota_S128x1024_d1_w32) k0_pay10 k0_pay11 (ix2 j c)
      = if c.val / 128 = j.val then 1 else 0 := by
  pointwise [k0_pay12, k0_pay10, k0_pay11]
  have hj : IntOp.muli (BitVec.ofNat 32 j.val) 128#32 = BitVec.ofNat 32 (j.val * 128) := by simp [IntOp.muli, BitVec.ofNat_mul]
  have hk : IntOp.muli (IntOp.addi (BitVec.ofNat 32 j.val) 1#32) 128#32 = BitVec.ofNat 32 ((j.val + 1) * 128) := by
    simp [IntOp.muli, IntOp.addi, BitVec.ofNat_mul, BitVec.ofNat_add]
  rw [hj, hk, WordCmp.cmpi_sge_ofNat (by omega) (by omega), WordCmp.cmpi_slt_ofNat (by omega) (by omega), WordCmp.andi_ofBool]
  simp (disch := word_cmp_side) only [hlo_ix]
  exact if_congr (by omega) rfl rfl

/-- The mask of the lanes that hold a head. -/
theorem head_at (r : Fin 512) (j : Fin 128) (x y : EReal) : Scalar.select (k0_pay8 (ix2 r j)) x y = if j.val < 8 then x else y := by
  pointwise [k0_pay8]
  simp (disch := word_cmp_side) only [hlo_ix]

/-- A column is one place of one head. -/
theorem part_at (P : Fin 8 → FVec Ideal S1x1x512x128 .bf16) (r : Fin 512) (c : Fin 1024) (k : Fin 8) (f : Fin 128)
    (h : c.val = k.val * 128 + f.val) :
    P k (ix4 0 0 r f) = P ⟨c.val / 128, by omega⟩ (ix4 0 0 r ⟨c.val % 128, by omega⟩) := by
  have hk : (⟨c.val / 128, by omega⟩ : Fin 8) = k := Fin.ext (by dsimp only; omega)
  have hf : (⟨c.val % 128, by omega⟩ : Fin 128) = f := Fin.ext (by dsimp only; omega)
  rw [hk, hf]

/-- The first group's part of the mixed output. -/
theorem pay20_at (v49 : FVec Ideal S512x1024 .f32) (P : Fin 8 → FVec Ideal S1x1x512x128 .bf16) (r : Fin 512) (c : Fin 1024) :
    k0_pay20 (F := Ideal) v49 (k0_pay14 (P 0)) (k0_pay15 (P 1)) (k0_pay16 (P 2)) (k0_pay17 (P 3)) (k0_pay18 (P 4)) (k0_pay19 (P 5)) (P 6) (P 7) (ix2 r c) = v49 (ix2 r c) * P ⟨c.val / 128, by omega⟩ (ix4 0 0 r ⟨c.val % 128, by omega⟩) := by
  pointwise [k0_pay20, k0_pay14, k0_pay15, k0_pay16, k0_pay17, k0_pay18, k0_pay19]
  refine Ideal.mul_congr rfl ?_
  split_ifs
  all_goals first
    | exact part_at P r c 0 _ (by show c.val = 0 * 128 + _; dsimp only; omega)
    | exact part_at P r c 0 _ (by show c.val = 0 * 128 + _; omega)
    | exact part_at P r c 1 _ (by show c.val = 1 * 128 + _; dsimp only; omega)
    | exact part_at P r c 1 _ (by show c.val = 1 * 128 + _; omega)
    | exact part_at P r c 2 _ (by show c.val = 2 * 128 + _; dsimp only; omega)
    | exact part_at P r c 2 _ (by show c.val = 2 * 128 + _; omega)
    | exact part_at P r c 3 _ (by show c.val = 3 * 128 + _; dsimp only; omega)
    | exact part_at P r c 3 _ (by show c.val = 3 * 128 + _; omega)
    | exact part_at P r c 4 _ (by show c.val = 4 * 128 + _; dsimp only; omega)
    | exact part_at P r c 4 _ (by show c.val = 4 * 128 + _; omega)
    | exact part_at P r c 5 _ (by show c.val = 5 * 128 + _; dsimp only; omega)
    | exact part_at P r c 5 _ (by show c.val = 5 * 128 + _; omega)
    | exact part_at P r c 6 _ (by show c.val = 6 * 128 + _; dsimp only; omega)
    | exact part_at P r c 6 _ (by show c.val = 6 * 128 + _; omega)
    | exact part_at P r c 7 _ (by show c.val = 7 * 128 + _; dsimp only; omega)
    | exact part_at P r c 7 _ (by show c.val = 7 * 128 + _; omega)

/-- The second group's part added to it. -/
theorem pay27_at (v75 v80 : FVec Ideal S512x1024 .f32) (P : Fin 8 → FVec Ideal S1x1x512x128 .bf16) (r : Fin 512) (c : Fin 1024) :
    k0_pay27 (F := Ideal) v75 v80 (k0_pay22 (P 0)) (k0_pay23 (P 1)) (k0_pay24 (P 2)) (k0_pay25 (P 3)) (k0_pay26 (P 4)) (P 5) (P 6) (P 7) (ix2 r c) = v75 (ix2 r c) + v80 (ix2 r c) * P ⟨c.val / 128, by omega⟩ (ix4 0 0 r ⟨c.val % 128, by omega⟩) := by
  pointwise [k0_pay27, k0_pay22, k0_pay23, k0_pay24, k0_pay25, k0_pay26]
  refine congrArg (fun z => v75 (ix2 r c) + v80 (ix2 r c) * z) ?_
  split_ifs
  all_goals first
    | exact part_at P r c 0 _ (by show c.val = 0 * 128 + _; dsimp only; omega)
    | exact part_at P r c 0 _ (by show c.val = 0 * 128 + _; omega)
    | exact part_at P r c 1 _ (by show c.val = 1 * 128 + _; dsimp only; omega)
    | exact part_at P r c 1 _ (by show c.val = 1 * 128 + _; omega)
    | exact part_at P r c 2 _ (by show c.val = 2 * 128 + _; dsimp only; omega)
    | exact part_at P r c 2 _ (by show c.val = 2 * 128 + _; omega)
    | exact part_at P r c 3 _ (by show c.val = 3 * 128 + _; dsimp only; omega)
    | exact part_at P r c 3 _ (by show c.val = 3 * 128 + _; omega)
    | exact part_at P r c 4 _ (by show c.val = 4 * 128 + _; dsimp only; omega)
    | exact part_at P r c 4 _ (by show c.val = 4 * 128 + _; omega)
    | exact part_at P r c 5 _ (by show c.val = 5 * 128 + _; dsimp only; omega)
    | exact part_at P r c 5 _ (by show c.val = 5 * 128 + _; omega)
    | exact part_at P r c 6 _ (by show c.val = 6 * 128 + _; dsimp only; omega)
    | exact part_at P r c 6 _ (by show c.val = 6 * 128 + _; omega)
    | exact part_at P r c 7 _ (by show c.val = 7 * 128 + _; dsimp only; omega)
    | exact part_at P r c 7 _ (by show c.val = 7 * 128 + _; omega)

/-- The residual row: the mixed output with the third group's part, through the projection. -/
theorem pay33_at (v107 v112 : FVec Ideal S512x1024 .f32) (P : Fin 8 → FVec Ideal S1x1x512x128 .bf16) (X : FVec Ideal S512x1024 .f32) (W : FVec Ideal S1024x1024 .bf16) (r : Fin 512) (d : Fin 1024) :
    k0_pay33 (F := Ideal) v107 v112 (k0_pay29 (P 0)) (k0_pay30 (P 1)) (k0_pay31 (P 2)) (k0_pay32 (P 3)) (P 4) (P 5) (P 6) (P 7) X W (ix2 r d) = X (ix2 r d) + ∑ c : Fin 1024, (v107 (ix2 r c) + v112 (ix2 r c) * P ⟨c.val / 128, by omega⟩ (ix4 0 0 r ⟨c.val % 128, by omega⟩)) * W (ix2 c d) := by
  pointwise [k0_pay33, k0_pay29, k0_pay30, k0_pay31, k0_pay32]
  refine congrArg (fun z => X (ix2 r d) + z) (Finset.sum_congr rfl fun c _ => ?_)
  refine congrArg (fun z => (v107 (ix2 r c) + v112 (ix2 r c) * z) * W (ix2 c d)) ?_
  split_ifs
  all_goals first
    | exact part_at P r c 0 _ (by show c.val = 0 * 128 + _; dsimp only; omega)
    | exact part_at P r c 0 _ (by show c.val = 0 * 128 + _; omega)
    | exact part_at P r c 1 _ (by show c.val = 1 * 128 + _; dsimp only; omega)
    | exact part_at P r c 1 _ (by show c.val = 1 * 128 + _; omega)
    | exact part_at P r c 2 _ (by show c.val = 2 * 128 + _; dsimp only; omega)
    | exact part_at P r c 2 _ (by show c.val = 2 * 128 + _; omega)
    | exact part_at P r c 3 _ (by show c.val = 3 * 128 + _; dsimp only; omega)
    | exact part_at P r c 3 _ (by show c.val = 3 * 128 + _; omega)
    | exact part_at P r c 4 _ (by show c.val = 4 * 128 + _; dsimp only; omega)
    | exact part_at P r c 4 _ (by show c.val = 4 * 128 + _; omega)
    | exact part_at P r c 5 _ (by show c.val = 5 * 128 + _; dsimp only; omega)
    | exact part_at P r c 5 _ (by show c.val = 5 * 128 + _; omega)
    | exact part_at P r c 6 _ (by show c.val = 6 * 128 + _; dsimp only; omega)
    | exact part_at P r c 6 _ (by show c.val = 6 * 128 + _; omega)
    | exact part_at P r c 7 _ (by show c.val = 7 * 128 + _; dsimp only; omega)
    | exact part_at P r c 7 _ (by show c.val = 7 * 128 + _; omega)

/-- The spreading product takes a head's lane to its columns. -/
theorem spread_sum (f : Fin 128 → EReal) (r : Fin 512) (c : Fin 1024) :
    ∑ j : Fin 128, Scalar.select (k0_pay8 (ix2 r j)) (f j) 0 * k0_pay12 (F := Ideal) (iota .tc S128x1024 32 [0] iota_S128x1024_d0_w32) (iota .tc S128x1024 32 [1] iota_S128x1024_d1_w32) k0_pay10 k0_pay11 (ix2 j c) = f ⟨c.val / 128, by omega⟩ := by
  rw [Finset.sum_eq_single (⟨c.val / 128, by omega⟩ : Fin 128)]
  · rw [spread_at, head_at, if_pos (by dsimp only; omega), if_pos rfl, mul_one]
  · intro j _ hj
    rw [spread_at, if_neg (fun h => hj (Fin.ext h.symm)), mul_zero]
  · intro h
    exact absurd (Finset.mem_univ _) h

/-- The first group's weight at a column. -/
theorem pay13_at (v12 v29 : FVec Ideal S512x128 .f32) (r : Fin 512) (c : Fin 1024) :
    k0_pay13 (F := Ideal) v12 k0_pay8 v29 (iota .tc S128x1024 32 [0] iota_S128x1024_d0_w32) (iota .tc S128x1024 32 [1] iota_S128x1024_d1_w32) k0_pay10 k0_pay11 (ix2 r c) = Ideal.div (v12 (ix2 r ⟨c.val / 128, by omega⟩)) (v29 (ix2 r ⟨c.val / 128, by omega⟩)) := by
  rw [← spread_sum (fun j => Ideal.div (v12 (ix2 r j)) (v29 (ix2 r j))) r c]
  pointwise [k0_pay13]

/-- The second group's weight at a column. -/
theorem pay21_at (v14 v29 : FVec Ideal S512x128 .f32) (r : Fin 512) (c : Fin 1024) :
    k0_pay21 (F := Ideal) v14 k0_pay8 v29 (k0_pay12 (F := Ideal) (iota .tc S128x1024 32 [0] iota_S128x1024_d0_w32) (iota .tc S128x1024 32 [1] iota_S128x1024_d1_w32) k0_pay10 k0_pay11) (ix2 r c) = Ideal.div (v14 (ix2 r ⟨c.val / 128, by omega⟩)) (v29 (ix2 r ⟨c.val / 128, by omega⟩)) := by
  rw [← spread_sum (fun j => Ideal.div (v14 (ix2 r j)) (v29 (ix2 r j))) r c]
  pointwise [k0_pay21]

/-- The third group's weight at a column. -/
theorem pay28_at (v16 v29 : FVec Ideal S512x128 .f32) (r : Fin 512) (c : Fin 1024) :
    k0_pay28 (F := Ideal) v16 k0_pay8 v29 (k0_pay12 (F := Ideal) (iota .tc S128x1024 32 [0] iota_S128x1024_d0_w32) (iota .tc S128x1024 32 [1] iota_S128x1024_d1_w32) k0_pay10 k0_pay11) (ix2 r c) = Ideal.div (v16 (ix2 r ⟨c.val / 128, by omega⟩)) (v29 (ix2 r ⟨c.val / 128, by omega⟩)) := by
  rw [← spread_sum (fun j => Ideal.div (v16 (ix2 r j)) (v29 (ix2 r j))) r c]
  pointwise [k0_pay28]

/-- The residual row of a tile over what it loads. -/
theorem merged_at (v0 v2 v4 v6 : FVec Ideal S1x1x512x128 .f32) (P1 P2 P3 : Fin 8 → FVec Ideal S1x1x512x128 .bf16) (X : FVec Ideal S512x1024 .f32) (W : FVec Ideal S1024x1024 .bf16) (r : Fin 512) (d : Fin 1024) :
    k0_pay33 (F := Ideal) (k0_pay27 (F := Ideal) (k0_pay20 (F := Ideal) (k0_pay13 (F := Ideal) (k0_pay5 (F := Ideal) v0 v2 v4 v6) k0_pay8 (k0_pay9 (F := Ideal) v0 v2 v4 v6) (iota .tc S128x1024 32 [0] iota_S128x1024_d0_w32) (iota .tc S128x1024 32 [1] iota_S128x1024_d1_w32) k0_pay10 k0_pay11) (k0_pay14 (P1 0)) (k0_pay15 (P1 1)) (k0_pay16 (P1 2)) (k0_pay17 (P1 3)) (k0_pay18 (P1 4)) (k0_pay19 (P1 5)) (P1 6) (P1 7)) (k0_pay21 (F := Ideal) (k0_pay6 (F := Ideal) v0 v2 v4 v6) k0_pay8 (k0_pay9 (F := Ideal) v0 v2 v4 v6) (k0_pay12 (F := Ideal) (iota .tc S128x1024 32 [0] iota_S128x1024_d0_w32) (iota .tc S128x1024 32 [1] iota_S128x1024_d1_w32) k0_pay10 k0_pay11)) (k0_pay22 (P2 0)) (k0_pay23 (P2 1)) (k0_pay24 (P2 2)) (k0_pay25 (P2 3)) (k0_pay26 (P2 4)) (P2 5) (P2 6) (P2 7)) (k0_pay28 (F := Ideal) (k0_pay7 (F := Ideal) v0 v2 v4 v6) k0_pay8 (k0_pay9 (F := Ideal) v0 v2 v4 v6) (k0_pay12 (F := Ideal) (iota .tc S128x1024 32 [0] iota_S128x1024_d0_w32) (iota .tc S128x1024 32 [1] iota_S128x1024_d1_w32) k0_pay10 k0_pay11)) (k0_pay29 (P3 0)) (k0_pay30 (P3 1)) (k0_pay31 (P3 2)) (k0_pay32 (P3 3)) (P3 4) (P3 5) (P3 6) (P3 7) X W (ix2 r d)
      = X (ix2 r d) + ∑ c : Fin 1024, Cert.Reference3Ideal.Merge.mixAt ![v0 (ix4 0 0 r ⟨c.val / 128, by omega⟩), v2 (ix4 0 0 r ⟨c.val / 128, by omega⟩), v4 (ix4 0 0 r ⟨c.val / 128, by omega⟩) + v6 (ix4 0 0 r ⟨c.val / 128, by omega⟩)] ![v0 (ix4 0 0 r ⟨8 + c.val / 128, by omega⟩), v2 (ix4 0 0 r ⟨8 + c.val / 128, by omega⟩), v4 (ix4 0 0 r ⟨8 + c.val / 128, by omega⟩) + v6 (ix4 0 0 r ⟨8 + c.val / 128, by omega⟩)]
          ![P1 ⟨c.val / 128, by omega⟩ (ix4 0 0 r ⟨c.val % 128, by omega⟩), P2 ⟨c.val / 128, by omega⟩ (ix4 0 0 r ⟨c.val % 128, by omega⟩), P3 ⟨c.val / 128, by omega⟩ (ix4 0 0 r ⟨c.val % 128, by omega⟩)] * W (ix2 c d) := by
  rw [pay33_at]
  refine congrArg (fun z => X (ix2 r d) + z) (Finset.sum_congr rfl fun c _ => congrArg (fun z => z * W (ix2 c d)) ?_)
  have h9 := pay9_at v0 v2 v4 v6 r ⟨c.val / 128, by omega⟩
  have h5 := pay5_at v0 v2 v4 v6 r ⟨c.val / 128, by omega⟩
  have h6 := pay6_at v0 v2 v4 v6 r ⟨c.val / 128, by omega⟩
  have h7 := pay7_at v0 v2 v4 v6 r ⟨c.val / 128, by omega⟩
  rw [pay27_at, pay20_at, pay13_at, pay21_at, pay28_at]
  rw [h9, h5, h6, h7]
  rfl

end Cert.Kernel3Ideal.Merge

end
-- ==== Proof.Merge.Block.lean ====
module

public import proofs.«01_k».proof.Proof.Gen.Kernel3Ideal.Frame
public import proofs.«01_k».proof.Proof.Merge.Spec
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel3Ideal.Merge

open Cert.Kernel3Ideal Cert.Kernel3Ideal.Gen

variable (m : (ℓ : Loc nD τ sig) → Buf (Elt Ideal) ℓ)

/-- Which block each window shows at a grid point: the tokens go with the point, the weights stay. -/
theorem idx : ∀ t : Fin cfg0.N, win0_0.index t = ![t.val, 0] ∧ win0_1.index t = ![t.val / 8, 0, t.val % 8, 0]
    ∧ win0_2.index t = ![t.val / 8, 0, t.val % 8, 0] ∧ win0_3.index t = ![t.val / 8, 0, t.val % 8, 0]
    ∧ win0_4.index t = ![t.val / 8, 0, t.val % 8, 0] ∧ win0_5.index t = ![t.val / 8, 0, t.val % 8, 0]
    ∧ win0_6.index t = ![t.val / 8, 0, t.val % 8, 0] ∧ win0_7.index t = ![0, 0] ∧ win0_8.index t = ![0, 0]
    ∧ win0_9.index t = ![1, 1, 0, 0] ∧ win0_10.index t = ![1, 1, 0, 0] ∧ win0_11.index t = ![t.val, 0] :=
  (by decide +kernel : ∀ t : Fin grid0.N, _)

/-- The block of the first group's statistics. -/
theorem s1_at (c : Dev nD) (t : Fin cfg0.N) (r : Fin 512) (j : Fin 128) :
    (show FVec Ideal S1x1x512x128 .f32 from iblk m c 4 t) (ix4 0 0 r j) = (m ((c : Thread nD τ).loc main_arg4)) (ix4 ⟨(t.val * 512 + r.val) / 4096, by have := t.isLt; have h : cfg0.N = 64 := rfl; omega⟩ 0 ⟨(t.val * 512 + r.val) % 4096, by omega⟩ j) := by
  blk_point [iblk, V, idx t]

/-- The block of the second group's statistics. -/
theorem s4_at (c : Dev nD) (t : Fin cfg0.N) (r : Fin 512) (j : Fin 128) :
    (show FVec Ideal S1x1x512x128 .f32 from iblk m c 5 t) (ix4 0 0 r j) = (m ((c : Thread nD τ).loc main_arg5)) (ix4 ⟨(t.val * 512 + r.val) / 4096, by have := t.isLt; have h : cfg0.N = 64 := rfl; omega⟩ 0 ⟨(t.val * 512 + r.val) % 4096, by omega⟩ j) := by
  blk_point [iblk, V, idx t]

/-- The first part of the third group's statistics. -/
theorem s16_at0 (c : Dev nD) (t : Fin cfg0.N) (r : Fin 512) (j : Fin 128) :
    (show FVec Ideal S1x1x512x128 .f32 from View.ld (iblk m c 6 t) (Rect.unit ![0, 0, 0, 0] ![1, 1, 512, 128] inb_S1x2x512x128_S1x1x512x128_0_0_0_0)) (ix4 0 0 r j) = (m ((c : Thread nD τ).loc main_arg6)) (ix4 ⟨(t.val * 512 + r.val) / 4096, by have := t.isLt; have h : cfg0.N = 64 := rfl; omega⟩ 0 ⟨(t.val * 512 + r.val) % 4096, by omega⟩ j) := by
  blk_point [iblk, V, idx t]

/-- The second part of the third group's statistics. -/
theorem s16_at1 (c : Dev nD) (t : Fin cfg0.N) (r : Fin 512) (j : Fin 128) :
    (show FVec Ideal S1x1x512x128 .f32 from View.ld (iblk m c 6 t) (Rect.unit ![0, 1, 0, 0] ![1, 1, 512, 128] inb_S1x2x512x128_S1x1x512x128_0_1_0_0)) (ix4 0 0 r j) = (m ((c : Thread nD τ).loc main_arg6)) (ix4 ⟨(t.val * 512 + r.val) / 4096, by have := t.isLt; have h : cfg0.N = 64 := rfl; omega⟩ 1 ⟨(t.val * 512 + r.val) % 4096, by omega⟩ j) := by
  blk_point [iblk, V, idx t]

/-- The eight heads of the first group's block. -/
def o1 (c : Dev nD) (t : Fin cfg0.N) : Fin 8 → FVec Ideal S1x1x512x128 .bf16 :=
  ![View.ld (iblk m c 1 t) (Rect.unit ![0, 0, 0, 0] ![1, 1, 512, 128] inb_S1x8x512x128_S1x1x512x128_0_0_0_0), View.ld (iblk m c 1 t) (Rect.unit ![0, 1, 0, 0] ![1, 1, 512, 128] inb_S1x8x512x128_S1x1x512x128_0_1_0_0), View.ld (iblk m c 1 t) (Rect.unit ![0, 2, 0, 0] ![1, 1, 512, 128] inb_S1x8x512x128_S1x1x512x128_0_2_0_0), View.ld (iblk m c 1 t) (Rect.unit ![0, 3, 0, 0] ![1, 1, 512, 128] inb_S1x8x512x128_S1x1x512x128_0_3_0_0), View.ld (iblk m c 1 t) (Rect.unit ![0, 4, 0, 0] ![1, 1, 512, 128] inb_S1x8x512x128_S1x1x512x128_0_4_0_0), View.ld (iblk m c 1 t) (Rect.unit ![0, 5, 0, 0] ![1, 1, 512, 128] inb_S1x8x512x128_S1x1x512x128_0_5_0_0), View.ld (iblk m c 1 t) (Rect.unit ![0, 6, 0, 0] ![1, 1, 512, 128] inb_S1x8x512x128_S1x1x512x128_0_6_0_0), View.ld (iblk m c 1 t) (Rect.unit ![0, 7, 0, 0] ![1, 1, 512, 128] inb_S1x8x512x128_S1x1x512x128_0_7_0_0)]

/-- A head of the first group's block. -/
theorem o1_at (c : Dev nD) (t : Fin cfg0.N) (h : Fin 8) (r : Fin 512) (e : Fin 128) :
    o1 m c t h (ix4 0 0 r e) = (m ((c : Thread nD τ).loc main_arg1)) (ix4 ⟨(t.val * 512 + r.val) / 4096, by have := t.isLt; have h : cfg0.N = 64 := rfl; omega⟩ h ⟨(t.val * 512 + r.val) % 4096, by omega⟩ e) := by
  unfold o1
  fin_cases h
  · refine (show (show FVec Ideal S1x1x512x128 .bf16 from View.ld (iblk m c 1 t) (Rect.unit ![0, 0, 0, 0] ![1, 1, 512, 128] inb_S1x8x512x128_S1x1x512x128_0_0_0_0)) (ix4 0 0 r e) = (m ((c : Thread nD τ).loc main_arg1)) (ix4 ⟨(t.val * 512 + r.val) / 4096, by have := t.isLt; have h : cfg0.N = 64 := rfl; omega⟩ 0 ⟨(t.val * 512 + r.val) % 4096, by omega⟩ e) from ?_)
    blk_point [iblk, V, idx t]
  · refine (show (show FVec Ideal S1x1x512x128 .bf16 from View.ld (iblk m c 1 t) (Rect.unit ![0, 1, 0, 0] ![1, 1, 512, 128] inb_S1x8x512x128_S1x1x512x128_0_1_0_0)) (ix4 0 0 r e) = (m ((c : Thread nD τ).loc main_arg1)) (ix4 ⟨(t.val * 512 + r.val) / 4096, by have := t.isLt; have h : cfg0.N = 64 := rfl; omega⟩ 1 ⟨(t.val * 512 + r.val) % 4096, by omega⟩ e) from ?_)
    blk_point [iblk, V, idx t]
  · refine (show (show FVec Ideal S1x1x512x128 .bf16 from View.ld (iblk m c 1 t) (Rect.unit ![0, 2, 0, 0] ![1, 1, 512, 128] inb_S1x8x512x128_S1x1x512x128_0_2_0_0)) (ix4 0 0 r e) = (m ((c : Thread nD τ).loc main_arg1)) (ix4 ⟨(t.val * 512 + r.val) / 4096, by have := t.isLt; have h : cfg0.N = 64 := rfl; omega⟩ 2 ⟨(t.val * 512 + r.val) % 4096, by omega⟩ e) from ?_)
    blk_point [iblk, V, idx t]
  · refine (show (show FVec Ideal S1x1x512x128 .bf16 from View.ld (iblk m c 1 t) (Rect.unit ![0, 3, 0, 0] ![1, 1, 512, 128] inb_S1x8x512x128_S1x1x512x128_0_3_0_0)) (ix4 0 0 r e) = (m ((c : Thread nD τ).loc main_arg1)) (ix4 ⟨(t.val * 512 + r.val) / 4096, by have := t.isLt; have h : cfg0.N = 64 := rfl; omega⟩ 3 ⟨(t.val * 512 + r.val) % 4096, by omega⟩ e) from ?_)
    blk_point [iblk, V, idx t]
  · refine (show (show FVec Ideal S1x1x512x128 .bf16 from View.ld (iblk m c 1 t) (Rect.unit ![0, 4, 0, 0] ![1, 1, 512, 128] inb_S1x8x512x128_S1x1x512x128_0_4_0_0)) (ix4 0 0 r e) = (m ((c : Thread nD τ).loc main_arg1)) (ix4 ⟨(t.val * 512 + r.val) / 4096, by have := t.isLt; have h : cfg0.N = 64 := rfl; omega⟩ 4 ⟨(t.val * 512 + r.val) % 4096, by omega⟩ e) from ?_)
    blk_point [iblk, V, idx t]
  · refine (show (show FVec Ideal S1x1x512x128 .bf16 from View.ld (iblk m c 1 t) (Rect.unit ![0, 5, 0, 0] ![1, 1, 512, 128] inb_S1x8x512x128_S1x1x512x128_0_5_0_0)) (ix4 0 0 r e) = (m ((c : Thread nD τ).loc main_arg1)) (ix4 ⟨(t.val * 512 + r.val) / 4096, by have := t.isLt; have h : cfg0.N = 64 := rfl; omega⟩ 5 ⟨(t.val * 512 + r.val) % 4096, by omega⟩ e) from ?_)
    blk_point [iblk, V, idx t]
  · refine (show (show FVec Ideal S1x1x512x128 .bf16 from View.ld (iblk m c 1 t) (Rect.unit ![0, 6, 0, 0] ![1, 1, 512, 128] inb_S1x8x512x128_S1x1x512x128_0_6_0_0)) (ix4 0 0 r e) = (m ((c : Thread nD τ).loc main_arg1)) (ix4 ⟨(t.val * 512 + r.val) / 4096, by have := t.isLt; have h : cfg0.N = 64 := rfl; omega⟩ 6 ⟨(t.val * 512 + r.val) % 4096, by omega⟩ e) from ?_)
    blk_point [iblk, V, idx t]
  · refine (show (show FVec Ideal S1x1x512x128 .bf16 from View.ld (iblk m c 1 t) (Rect.unit ![0, 7, 0, 0] ![1, 1, 512, 128] inb_S1x8x512x128_S1x1x512x128_0_7_0_0)) (ix4 0 0 r e) = (m ((c : Thread nD τ).loc main_arg1)) (ix4 ⟨(t.val * 512 + r.val) / 4096, by have := t.isLt; have h : cfg0.N = 64 := rfl; omega⟩ 7 ⟨(t.val * 512 + r.val) % 4096, by omega⟩ e) from ?_)
    blk_point [iblk, V, idx t]

/-- The eight heads of the second group's block. -/
def o4 (c : Dev nD) (t : Fin cfg0.N) : Fin 8 → FVec Ideal S1x1x512x128 .bf16 :=
  ![View.ld (iblk m c 2 t) (Rect.unit ![0, 0, 0, 0] ![1, 1, 512, 128] inb_S1x8x512x128_S1x1x512x128_0_0_0_0), View.ld (iblk m c 2 t) (Rect.unit ![0, 1, 0, 0] ![1, 1, 512, 128] inb_S1x8x512x128_S1x1x512x128_0_1_0_0), View.ld (iblk m c 2 t) (Rect.unit ![0, 2, 0, 0] ![1, 1, 512, 128] inb_S1x8x512x128_S1x1x512x128_0_2_0_0), View.ld (iblk m c 2 t) (Rect.unit ![0, 3, 0, 0] ![1, 1, 512, 128] inb_S1x8x512x128_S1x1x512x128_0_3_0_0), View.ld (iblk m c 2 t) (Rect.unit ![0, 4, 0, 0] ![1, 1, 512, 128] inb_S1x8x512x128_S1x1x512x128_0_4_0_0), View.ld (iblk m c 2 t) (Rect.unit ![0, 5, 0, 0] ![1, 1, 512, 128] inb_S1x8x512x128_S1x1x512x128_0_5_0_0), View.ld (iblk m c 2 t) (Rect.unit ![0, 6, 0, 0] ![1, 1, 512, 128] inb_S1x8x512x128_S1x1x512x128_0_6_0_0), View.ld (iblk m c 2 t) (Rect.unit ![0, 7, 0, 0] ![1, 1, 512, 128] inb_S1x8x512x128_S1x1x512x128_0_7_0_0)]

/-- A head of the second group's block. -/
theorem o4_at (c : Dev nD) (t : Fin cfg0.N) (h : Fin 8) (r : Fin 512) (e : Fin 128) :
    o4 m c t h (ix4 0 0 r e) = (m ((c : Thread nD τ).loc main_arg2)) (ix4 ⟨(t.val * 512 + r.val) / 4096, by have := t.isLt; have h : cfg0.N = 64 := rfl; omega⟩ h ⟨(t.val * 512 + r.val) % 4096, by omega⟩ e) := by
  unfold o4
  fin_cases h
  · refine (show (show FVec Ideal S1x1x512x128 .bf16 from View.ld (iblk m c 2 t) (Rect.unit ![0, 0, 0, 0] ![1, 1, 512, 128] inb_S1x8x512x128_S1x1x512x128_0_0_0_0)) (ix4 0 0 r e) = (m ((c : Thread nD τ).loc main_arg2)) (ix4 ⟨(t.val * 512 + r.val) / 4096, by have := t.isLt; have h : cfg0.N = 64 := rfl; omega⟩ 0 ⟨(t.val * 512 + r.val) % 4096, by omega⟩ e) from ?_)
    blk_point [iblk, V, idx t]
  · refine (show (show FVec Ideal S1x1x512x128 .bf16 from View.ld (iblk m c 2 t) (Rect.unit ![0, 1, 0, 0] ![1, 1, 512, 128] inb_S1x8x512x128_S1x1x512x128_0_1_0_0)) (ix4 0 0 r e) = (m ((c : Thread nD τ).loc main_arg2)) (ix4 ⟨(t.val * 512 + r.val) / 4096, by have := t.isLt; have h : cfg0.N = 64 := rfl; omega⟩ 1 ⟨(t.val * 512 + r.val) % 4096, by omega⟩ e) from ?_)
    blk_point [iblk, V, idx t]
  · refine (show (show FVec Ideal S1x1x512x128 .bf16 from View.ld (iblk m c 2 t) (Rect.unit ![0, 2, 0, 0] ![1, 1, 512, 128] inb_S1x8x512x128_S1x1x512x128_0_2_0_0)) (ix4 0 0 r e) = (m ((c : Thread nD τ).loc main_arg2)) (ix4 ⟨(t.val * 512 + r.val) / 4096, by have := t.isLt; have h : cfg0.N = 64 := rfl; omega⟩ 2 ⟨(t.val * 512 + r.val) % 4096, by omega⟩ e) from ?_)
    blk_point [iblk, V, idx t]
  · refine (show (show FVec Ideal S1x1x512x128 .bf16 from View.ld (iblk m c 2 t) (Rect.unit ![0, 3, 0, 0] ![1, 1, 512, 128] inb_S1x8x512x128_S1x1x512x128_0_3_0_0)) (ix4 0 0 r e) = (m ((c : Thread nD τ).loc main_arg2)) (ix4 ⟨(t.val * 512 + r.val) / 4096, by have := t.isLt; have h : cfg0.N = 64 := rfl; omega⟩ 3 ⟨(t.val * 512 + r.val) % 4096, by omega⟩ e) from ?_)
    blk_point [iblk, V, idx t]
  · refine (show (show FVec Ideal S1x1x512x128 .bf16 from View.ld (iblk m c 2 t) (Rect.unit ![0, 4, 0, 0] ![1, 1, 512, 128] inb_S1x8x512x128_S1x1x512x128_0_4_0_0)) (ix4 0 0 r e) = (m ((c : Thread nD τ).loc main_arg2)) (ix4 ⟨(t.val * 512 + r.val) / 4096, by have := t.isLt; have h : cfg0.N = 64 := rfl; omega⟩ 4 ⟨(t.val * 512 + r.val) % 4096, by omega⟩ e) from ?_)
    blk_point [iblk, V, idx t]
  · refine (show (show FVec Ideal S1x1x512x128 .bf16 from View.ld (iblk m c 2 t) (Rect.unit ![0, 5, 0, 0] ![1, 1, 512, 128] inb_S1x8x512x128_S1x1x512x128_0_5_0_0)) (ix4 0 0 r e) = (m ((c : Thread nD τ).loc main_arg2)) (ix4 ⟨(t.val * 512 + r.val) / 4096, by have := t.isLt; have h : cfg0.N = 64 := rfl; omega⟩ 5 ⟨(t.val * 512 + r.val) % 4096, by omega⟩ e) from ?_)
    blk_point [iblk, V, idx t]
  · refine (show (show FVec Ideal S1x1x512x128 .bf16 from View.ld (iblk m c 2 t) (Rect.unit ![0, 6, 0, 0] ![1, 1, 512, 128] inb_S1x8x512x128_S1x1x512x128_0_6_0_0)) (ix4 0 0 r e) = (m ((c : Thread nD τ).loc main_arg2)) (ix4 ⟨(t.val * 512 + r.val) / 4096, by have := t.isLt; have h : cfg0.N = 64 := rfl; omega⟩ 6 ⟨(t.val * 512 + r.val) % 4096, by omega⟩ e) from ?_)
    blk_point [iblk, V, idx t]
  · refine (show (show FVec Ideal S1x1x512x128 .bf16 from View.ld (iblk m c 2 t) (Rect.unit ![0, 7, 0, 0] ![1, 1, 512, 128] inb_S1x8x512x128_S1x1x512x128_0_7_0_0)) (ix4 0 0 r e) = (m ((c : Thread nD τ).loc main_arg2)) (ix4 ⟨(t.val * 512 + r.val) / 4096, by have := t.isLt; have h : cfg0.N = 64 := rfl; omega⟩ 7 ⟨(t.val * 512 + r.val) % 4096, by omega⟩ e) from ?_)
    blk_point [iblk, V, idx t]

/-- The eight heads of the third group's block. -/
def o16 (c : Dev nD) (t : Fin cfg0.N) : Fin 8 → FVec Ideal S1x1x512x128 .bf16 :=
  ![View.ld (iblk m c 3 t) (Rect.unit ![0, 0, 0, 0] ![1, 1, 512, 128] inb_S1x8x512x128_S1x1x512x128_0_0_0_0), View.ld (iblk m c 3 t) (Rect.unit ![0, 1, 0, 0] ![1, 1, 512, 128] inb_S1x8x512x128_S1x1x512x128_0_1_0_0), View.ld (iblk m c 3 t) (Rect.unit ![0, 2, 0, 0] ![1, 1, 512, 128] inb_S1x8x512x128_S1x1x512x128_0_2_0_0), View.ld (iblk m c 3 t) (Rect.unit ![0, 3, 0, 0] ![1, 1, 512, 128] inb_S1x8x512x128_S1x1x512x128_0_3_0_0), View.ld (iblk m c 3 t) (Rect.unit ![0, 4, 0, 0] ![1, 1, 512, 128] inb_S1x8x512x128_S1x1x512x128_0_4_0_0), View.ld (iblk m c 3 t) (Rect.unit ![0, 5, 0, 0] ![1, 1, 512, 128] inb_S1x8x512x128_S1x1x512x128_0_5_0_0), View.ld (iblk m c 3 t) (Rect.unit ![0, 6, 0, 0] ![1, 1, 512, 128] inb_S1x8x512x128_S1x1x512x128_0_6_0_0), View.ld (iblk m c 3 t) (Rect.unit ![0, 7, 0, 0] ![1, 1, 512, 128] inb_S1x8x512x128_S1x1x512x128_0_7_0_0)]

/-- A head of the third group's block. -/
theorem o16_at (c : Dev nD) (t : Fin cfg0.N) (h : Fin 8) (r : Fin 512) (e : Fin 128) :
    o16 m c t h (ix4 0 0 r e) = (m ((c : Thread nD τ).loc main_arg3)) (ix4 ⟨(t.val * 512 + r.val) / 4096, by have := t.isLt; have h : cfg0.N = 64 := rfl; omega⟩ h ⟨(t.val * 512 + r.val) % 4096, by omega⟩ e) := by
  unfold o16
  fin_cases h
  · refine (show (show FVec Ideal S1x1x512x128 .bf16 from View.ld (iblk m c 3 t) (Rect.unit ![0, 0, 0, 0] ![1, 1, 512, 128] inb_S1x8x512x128_S1x1x512x128_0_0_0_0)) (ix4 0 0 r e) = (m ((c : Thread nD τ).loc main_arg3)) (ix4 ⟨(t.val * 512 + r.val) / 4096, by have := t.isLt; have h : cfg0.N = 64 := rfl; omega⟩ 0 ⟨(t.val * 512 + r.val) % 4096, by omega⟩ e) from ?_)
    blk_point [iblk, V, idx t]
  · refine (show (show FVec Ideal S1x1x512x128 .bf16 from View.ld (iblk m c 3 t) (Rect.unit ![0, 1, 0, 0] ![1, 1, 512, 128] inb_S1x8x512x128_S1x1x512x128_0_1_0_0)) (ix4 0 0 r e) = (m ((c : Thread nD τ).loc main_arg3)) (ix4 ⟨(t.val * 512 + r.val) / 4096, by have := t.isLt; have h : cfg0.N = 64 := rfl; omega⟩ 1 ⟨(t.val * 512 + r.val) % 4096, by omega⟩ e) from ?_)
    blk_point [iblk, V, idx t]
  · refine (show (show FVec Ideal S1x1x512x128 .bf16 from View.ld (iblk m c 3 t) (Rect.unit ![0, 2, 0, 0] ![1, 1, 512, 128] inb_S1x8x512x128_S1x1x512x128_0_2_0_0)) (ix4 0 0 r e) = (m ((c : Thread nD τ).loc main_arg3)) (ix4 ⟨(t.val * 512 + r.val) / 4096, by have := t.isLt; have h : cfg0.N = 64 := rfl; omega⟩ 2 ⟨(t.val * 512 + r.val) % 4096, by omega⟩ e) from ?_)
    blk_point [iblk, V, idx t]
  · refine (show (show FVec Ideal S1x1x512x128 .bf16 from View.ld (iblk m c 3 t) (Rect.unit ![0, 3, 0, 0] ![1, 1, 512, 128] inb_S1x8x512x128_S1x1x512x128_0_3_0_0)) (ix4 0 0 r e) = (m ((c : Thread nD τ).loc main_arg3)) (ix4 ⟨(t.val * 512 + r.val) / 4096, by have := t.isLt; have h : cfg0.N = 64 := rfl; omega⟩ 3 ⟨(t.val * 512 + r.val) % 4096, by omega⟩ e) from ?_)
    blk_point [iblk, V, idx t]
  · refine (show (show FVec Ideal S1x1x512x128 .bf16 from View.ld (iblk m c 3 t) (Rect.unit ![0, 4, 0, 0] ![1, 1, 512, 128] inb_S1x8x512x128_S1x1x512x128_0_4_0_0)) (ix4 0 0 r e) = (m ((c : Thread nD τ).loc main_arg3)) (ix4 ⟨(t.val * 512 + r.val) / 4096, by have := t.isLt; have h : cfg0.N = 64 := rfl; omega⟩ 4 ⟨(t.val * 512 + r.val) % 4096, by omega⟩ e) from ?_)
    blk_point [iblk, V, idx t]
  · refine (show (show FVec Ideal S1x1x512x128 .bf16 from View.ld (iblk m c 3 t) (Rect.unit ![0, 5, 0, 0] ![1, 1, 512, 128] inb_S1x8x512x128_S1x1x512x128_0_5_0_0)) (ix4 0 0 r e) = (m ((c : Thread nD τ).loc main_arg3)) (ix4 ⟨(t.val * 512 + r.val) / 4096, by have := t.isLt; have h : cfg0.N = 64 := rfl; omega⟩ 5 ⟨(t.val * 512 + r.val) % 4096, by omega⟩ e) from ?_)
    blk_point [iblk, V, idx t]
  · refine (show (show FVec Ideal S1x1x512x128 .bf16 from View.ld (iblk m c 3 t) (Rect.unit ![0, 6, 0, 0] ![1, 1, 512, 128] inb_S1x8x512x128_S1x1x512x128_0_6_0_0)) (ix4 0 0 r e) = (m ((c : Thread nD τ).loc main_arg3)) (ix4 ⟨(t.val * 512 + r.val) / 4096, by have := t.isLt; have h : cfg0.N = 64 := rfl; omega⟩ 6 ⟨(t.val * 512 + r.val) % 4096, by omega⟩ e) from ?_)
    blk_point [iblk, V, idx t]
  · refine (show (show FVec Ideal S1x1x512x128 .bf16 from View.ld (iblk m c 3 t) (Rect.unit ![0, 7, 0, 0] ![1, 1, 512, 128] inb_S1x8x512x128_S1x1x512x128_0_7_0_0)) (ix4 0 0 r e) = (m ((c : Thread nD τ).loc main_arg3)) (ix4 ⟨(t.val * 512 + r.val) / 4096, by have := t.isLt; have h : cfg0.N = 64 := rfl; omega⟩ 7 ⟨(t.val * 512 + r.val) % 4096, by omega⟩ e) from ?_)
    blk_point [iblk, V, idx t]

/-- The block of the input. -/
theorem x_at (c : Dev nD) (t : Fin cfg0.N) (r : Fin 512) (d : Fin 1024) :
    (show FVec Ideal S512x1024 .f32 from iblk m c 0 t) (ix2 r d) = (m ((c : Thread nD τ).loc main_arg0)) (ix3 ⟨(t.val * 512 + r.val) / 4096, by have := t.isLt; have h : cfg0.N = 64 := rfl; omega⟩ ⟨(t.val * 512 + r.val) % 4096, by omega⟩ d) := by
  blk_point [iblk, V, idx t]

/-- The projection's block is the whole of it. -/
theorem wo_at (c : Dev nD) (t : Fin cfg0.N) (k d : Fin 1024) :
    (show FVec Ideal S1024x1024 .bf16 from iblk m c 7 t) (ix2 k d) = (m ((c : Thread nD τ).loc main_arg7)) (ix3 0 k d) := by
  blk_point [iblk, V, idx t]

/-- The gain's block is its one row. -/
theorem g_at (c : Dev nD) (t : Fin cfg0.N) (d : Fin 1024) :
    (show FVec Ideal S1x1024 .f32 from iblk m c 8 t) (ix2 0 d) = (m ((c : Thread nD τ).loc main_arg8)) (ix3 1 2 d) := by
  blk_point [iblk, V, idx t]

/-- The first weight's block is the whole of its last matrix. -/
theorem win_at (c : Dev nD) (t : Fin cfg0.N) (k : Fin 1024) (f : Fin 5632) :
    (show FVec Ideal S1x1x1024x5632 .bf16 from iblk m c 9 t) (ix4 0 0 k f) = (m ((c : Thread nD τ).loc main_arg9)) (ix4 1 1 k f) := by
  blk_point [iblk, V, idx t]

/-- The second weight's block is the whole of its last matrix. -/
theorem wout_at (c : Dev nD) (t : Fin cfg0.N) (f : Fin 2816) (d : Fin 1024) :
    (show FVec Ideal S1x1x2816x1024 .bf16 from iblk m c 10 t) (ix4 0 0 f d) = (m ((c : Thread nD τ).loc main_arg10)) (ix4 1 1 f d) := by
  blk_point [iblk, V, idx t]

end Cert.Kernel3Ideal.Merge

end
-- ==== Proof.Merge.Kernel.lean ====
module

public import proofs.«01_k».proof.Proof.Gen.Kernel3Ideal.Frame
public import proofs.«01_k».proof.Proof.Merge.Tile
public import proofs.«01_k».proof.Proof.Merge.Block
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel3Ideal.Merge

open Cert.Kernel3Ideal Cert.Kernel3Ideal.Gen

variable (m : (ℓ : Loc nD τ sig) → Buf (Elt Ideal) ℓ)

/-- What the precondition says of the statistics: finite in the lanes that are read, and the denominators positive. -/
def Finite (c : Dev nD) : Prop :=
  (∀ (b : Fin 8) (s : Fin 4096) (j : Fin 16) (g : Fin 3), ⊥ < Cert.Reference3Ideal.Merge.stat (m ((c : Thread nD τ).loc main_arg4)) (m ((c : Thread nD τ).loc main_arg5)) (m ((c : Thread nD τ).loc main_arg6)) b s ⟨j.val, by omega⟩ g ∧ Cert.Reference3Ideal.Merge.stat (m ((c : Thread nD τ).loc main_arg4)) (m ((c : Thread nD τ).loc main_arg5)) (m ((c : Thread nD τ).loc main_arg6)) b s ⟨j.val, by omega⟩ g < ⊤)
    ∧ ∀ (b : Fin 8) (s : Fin 4096) (j : Fin 8) (g : Fin 3), 0 < Cert.Reference3Ideal.Merge.stat (m ((c : Thread nD τ).loc main_arg4)) (m ((c : Thread nD τ).loc main_arg5)) (m ((c : Thread nD τ).loc main_arg6)) b s ⟨8 + j.val, by omega⟩ g

/-- The residual row of a tile, over what the tile loads. -/
def merged (c : Dev nD) (t : Fin cfg0.N) : FVec Ideal S512x1024 .f32 := k0_pay33 (k0_pay27 (k0_pay20 (k0_pay13 (k0_pay5 (iblk m c 4 t) (iblk m c 5 t) (View.ld (iblk m c 6 t) (Rect.unit ![0, 0, 0, 0] ![1, 1, 512, 128] inb_S1x2x512x128_S1x1x512x128_0_0_0_0)) (View.ld (iblk m c 6 t) (Rect.unit ![0, 1, 0, 0] ![1, 1, 512, 128] inb_S1x2x512x128_S1x1x512x128_0_1_0_0))) k0_pay8 (k0_pay9 (iblk m c 4 t) (iblk m c 5 t) (View.ld (iblk m c 6 t) (Rect.unit ![0, 0, 0, 0] ![1, 1, 512, 128] inb_S1x2x512x128_S1x1x512x128_0_0_0_0)) (View.ld (iblk m c 6 t) (Rect.unit ![0, 1, 0, 0] ![1, 1, 512, 128] inb_S1x2x512x128_S1x1x512x128_0_1_0_0))) (iota .tc S128x1024 32 [0] iota_S128x1024_d0_w32) (iota .tc S128x1024 32 [1] iota_S128x1024_d1_w32) k0_pay10 k0_pay11) (k0_pay14 (View.ld (iblk m c 1 t) (Rect.unit ![0, 0, 0, 0] ![1, 1, 512, 128] inb_S1x8x512x128_S1x1x512x128_0_0_0_0))) (k0_pay15 (View.ld (iblk m c 1 t) (Rect.unit ![0, 1, 0, 0] ![1, 1, 512, 128] inb_S1x8x512x128_S1x1x512x128_0_1_0_0))) (k0_pay16 (View.ld (iblk m c 1 t) (Rect.unit ![0, 2, 0, 0] ![1, 1, 512, 128] inb_S1x8x512x128_S1x1x512x128_0_2_0_0))) (k0_pay17 (View.ld (iblk m c 1 t) (Rect.unit ![0, 3, 0, 0] ![1, 1, 512, 128] inb_S1x8x512x128_S1x1x512x128_0_3_0_0))) (k0_pay18 (View.ld (iblk m c 1 t) (Rect.unit ![0, 4, 0, 0] ![1, 1, 512, 128] inb_S1x8x512x128_S1x1x512x128_0_4_0_0))) (k0_pay19 (View.ld (iblk m c 1 t) (Rect.unit ![0, 5, 0, 0] ![1, 1, 512, 128] inb_S1x8x512x128_S1x1x512x128_0_5_0_0))) (View.ld (iblk m c 1 t) (Rect.unit ![0, 6, 0, 0] ![1, 1, 512, 128] inb_S1x8x512x128_S1x1x512x128_0_6_0_0)) (View.ld (iblk m c 1 t) (Rect.unit ![0, 7, 0, 0] ![1, 1, 512, 128] inb_S1x8x512x128_S1x1x512x128_0_7_0_0))) (k0_pay21 (k0_pay6 (iblk m c 4 t) (iblk m c 5 t) (View.ld (iblk m c 6 t) (Rect.unit ![0, 0, 0, 0] ![1, 1, 512, 128] inb_S1x2x512x128_S1x1x512x128_0_0_0_0)) (View.ld (iblk m c 6 t) (Rect.unit ![0, 1, 0, 0] ![1, 1, 512, 128] inb_S1x2x512x128_S1x1x512x128_0_1_0_0))) k0_pay8 (k0_pay9 (iblk m c 4 t) (iblk m c 5 t) (View.ld (iblk m c 6 t) (Rect.unit ![0, 0, 0, 0] ![1, 1, 512, 128] inb_S1x2x512x128_S1x1x512x128_0_0_0_0)) (View.ld (iblk m c 6 t) (Rect.unit ![0, 1, 0, 0] ![1, 1, 512, 128] inb_S1x2x512x128_S1x1x512x128_0_1_0_0))) (k0_pay12 (iota .tc S128x1024 32 [0] iota_S128x1024_d0_w32) (iota .tc S128x1024 32 [1] iota_S128x1024_d1_w32) k0_pay10 k0_pay11)) (k0_pay22 (View.ld (iblk m c 2 t) (Rect.unit ![0, 0, 0, 0] ![1, 1, 512, 128] inb_S1x8x512x128_S1x1x512x128_0_0_0_0))) (k0_pay23 (View.ld (iblk m c 2 t) (Rect.unit ![0, 1, 0, 0] ![1, 1, 512, 128] inb_S1x8x512x128_S1x1x512x128_0_1_0_0))) (k0_pay24 (View.ld (iblk m c 2 t) (Rect.unit ![0, 2, 0, 0] ![1, 1, 512, 128] inb_S1x8x512x128_S1x1x512x128_0_2_0_0))) (k0_pay25 (View.ld (iblk m c 2 t) (Rect.unit ![0, 3, 0, 0] ![1, 1, 512, 128] inb_S1x8x512x128_S1x1x512x128_0_3_0_0))) (k0_pay26 (View.ld (iblk m c 2 t) (Rect.unit ![0, 4, 0, 0] ![1, 1, 512, 128] inb_S1x8x512x128_S1x1x512x128_0_4_0_0))) (View.ld (iblk m c 2 t) (Rect.unit ![0, 5, 0, 0] ![1, 1, 512, 128] inb_S1x8x512x128_S1x1x512x128_0_5_0_0)) (View.ld (iblk m c 2 t) (Rect.unit ![0, 6, 0, 0] ![1, 1, 512, 128] inb_S1x8x512x128_S1x1x512x128_0_6_0_0)) (View.ld (iblk m c 2 t) (Rect.unit ![0, 7, 0, 0] ![1, 1, 512, 128] inb_S1x8x512x128_S1x1x512x128_0_7_0_0))) (k0_pay28 (k0_pay7 (iblk m c 4 t) (iblk m c 5 t) (View.ld (iblk m c 6 t) (Rect.unit ![0, 0, 0, 0] ![1, 1, 512, 128] inb_S1x2x512x128_S1x1x512x128_0_0_0_0)) (View.ld (iblk m c 6 t) (Rect.unit ![0, 1, 0, 0] ![1, 1, 512, 128] inb_S1x2x512x128_S1x1x512x128_0_1_0_0))) k0_pay8 (k0_pay9 (iblk m c 4 t) (iblk m c 5 t) (View.ld (iblk m c 6 t) (Rect.unit ![0, 0, 0, 0] ![1, 1, 512, 128] inb_S1x2x512x128_S1x1x512x128_0_0_0_0)) (View.ld (iblk m c 6 t) (Rect.unit ![0, 1, 0, 0] ![1, 1, 512, 128] inb_S1x2x512x128_S1x1x512x128_0_1_0_0))) (k0_pay12 (iota .tc S128x1024 32 [0] iota_S128x1024_d0_w32) (iota .tc S128x1024 32 [1] iota_S128x1024_d1_w32) k0_pay10 k0_pay11)) (k0_pay29 (View.ld (iblk m c 3 t) (Rect.unit ![0, 0, 0, 0] ![1, 1, 512, 128] inb_S1x8x512x128_S1x1x512x128_0_0_0_0))) (k0_pay30 (View.ld (iblk m c 3 t) (Rect.unit ![0, 1, 0, 0] ![1, 1, 512, 128] inb_S1x8x512x128_S1x1x512x128_0_1_0_0))) (k0_pay31 (View.ld (iblk m c 3 t) (Rect.unit ![0, 2, 0, 0] ![1, 1, 512, 128] inb_S1x8x512x128_S1x1x512x128_0_2_0_0))) (k0_pay32 (View.ld (iblk m c 3 t) (Rect.unit ![0, 3, 0, 0] ![1, 1, 512, 128] inb_S1x8x512x128_S1x1x512x128_0_3_0_0))) (View.ld (iblk m c 3 t) (Rect.unit ![0, 4, 0, 0] ![1, 1, 512, 128] inb_S1x8x512x128_S1x1x512x128_0_4_0_0)) (View.ld (iblk m c 3 t) (Rect.unit ![0, 5, 0, 0] ![1, 1, 512, 128] inb_S1x8x512x128_S1x1x512x128_0_5_0_0)) (View.ld (iblk m c 3 t) (Rect.unit ![0, 6, 0, 0] ![1, 1, 512, 128] inb_S1x8x512x128_S1x1x512x128_0_6_0_0)) (View.ld (iblk m c 3 t) (Rect.unit ![0, 7, 0, 0] ![1, 1, 512, 128] inb_S1x8x512x128_S1x1x512x128_0_7_0_0)) (iblk m c 0 t) (iblk m c 7 t)

/-- The normalised row of a tile, over what the tile loads. -/
def normed (c : Dev nD) (t : Fin cfg0.N) : FVec Ideal S512x1024 .bf16 := k0_pay35 (k0_pay34 (k0_pay27 (k0_pay20 (k0_pay13 (k0_pay5 (iblk m c 4 t) (iblk m c 5 t) (View.ld (iblk m c 6 t) (Rect.unit ![0, 0, 0, 0] ![1, 1, 512, 128] inb_S1x2x512x128_S1x1x512x128_0_0_0_0)) (View.ld (iblk m c 6 t) (Rect.unit ![0, 1, 0, 0] ![1, 1, 512, 128] inb_S1x2x512x128_S1x1x512x128_0_1_0_0))) k0_pay8 (k0_pay9 (iblk m c 4 t) (iblk m c 5 t) (View.ld (iblk m c 6 t) (Rect.unit ![0, 0, 0, 0] ![1, 1, 512, 128] inb_S1x2x512x128_S1x1x512x128_0_0_0_0)) (View.ld (iblk m c 6 t) (Rect.unit ![0, 1, 0, 0] ![1, 1, 512, 128] inb_S1x2x512x128_S1x1x512x128_0_1_0_0))) (iota .tc S128x1024 32 [0] iota_S128x1024_d0_w32) (iota .tc S128x1024 32 [1] iota_S128x1024_d1_w32) k0_pay10 k0_pay11) (k0_pay14 (View.ld (iblk m c 1 t) (Rect.unit ![0, 0, 0, 0] ![1, 1, 512, 128] inb_S1x8x512x128_S1x1x512x128_0_0_0_0))) (k0_pay15 (View.ld (iblk m c 1 t) (Rect.unit ![0, 1, 0, 0] ![1, 1, 512, 128] inb_S1x8x512x128_S1x1x512x128_0_1_0_0))) (k0_pay16 (View.ld (iblk m c 1 t) (Rect.unit ![0, 2, 0, 0] ![1, 1, 512, 128] inb_S1x8x512x128_S1x1x512x128_0_2_0_0))) (k0_pay17 (View.ld (iblk m c 1 t) (Rect.unit ![0, 3, 0, 0] ![1, 1, 512, 128] inb_S1x8x512x128_S1x1x512x128_0_3_0_0))) (k0_pay18 (View.ld (iblk m c 1 t) (Rect.unit ![0, 4, 0, 0] ![1, 1, 512, 128] inb_S1x8x512x128_S1x1x512x128_0_4_0_0))) (k0_pay19 (View.ld (iblk m c 1 t) (Rect.unit ![0, 5, 0, 0] ![1, 1, 512, 128] inb_S1x8x512x128_S1x1x512x128_0_5_0_0))) (View.ld (iblk m c 1 t) (Rect.unit ![0, 6, 0, 0] ![1, 1, 512, 128] inb_S1x8x512x128_S1x1x512x128_0_6_0_0)) (View.ld (iblk m c 1 t) (Rect.unit ![0, 7, 0, 0] ![1, 1, 512, 128] inb_S1x8x512x128_S1x1x512x128_0_7_0_0))) (k0_pay21 (k0_pay6 (iblk m c 4 t) (iblk m c 5 t) (View.ld (iblk m c 6 t) (Rect.unit ![0, 0, 0, 0] ![1, 1, 512, 128] inb_S1x2x512x128_S1x1x512x128_0_0_0_0)) (View.ld (iblk m c 6 t) (Rect.unit ![0, 1, 0, 0] ![1, 1, 512, 128] inb_S1x2x512x128_S1x1x512x128_0_1_0_0))) k0_pay8 (k0_pay9 (iblk m c 4 t) (iblk m c 5 t) (View.ld (iblk m c 6 t) (Rect.unit ![0, 0, 0, 0] ![1, 1, 512, 128] inb_S1x2x512x128_S1x1x512x128_0_0_0_0)) (View.ld (iblk m c 6 t) (Rect.unit ![0, 1, 0, 0] ![1, 1, 512, 128] inb_S1x2x512x128_S1x1x512x128_0_1_0_0))) (k0_pay12 (iota .tc S128x1024 32 [0] iota_S128x1024_d0_w32) (iota .tc S128x1024 32 [1] iota_S128x1024_d1_w32) k0_pay10 k0_pay11)) (k0_pay22 (View.ld (iblk m c 2 t) (Rect.unit ![0, 0, 0, 0] ![1, 1, 512, 128] inb_S1x8x512x128_S1x1x512x128_0_0_0_0))) (k0_pay23 (View.ld (iblk m c 2 t) (Rect.unit ![0, 1, 0, 0] ![1, 1, 512, 128] inb_S1x8x512x128_S1x1x512x128_0_1_0_0))) (k0_pay24 (View.ld (iblk m c 2 t) (Rect.unit ![0, 2, 0, 0] ![1, 1, 512, 128] inb_S1x8x512x128_S1x1x512x128_0_2_0_0))) (k0_pay25 (View.ld (iblk m c 2 t) (Rect.unit ![0, 3, 0, 0] ![1, 1, 512, 128] inb_S1x8x512x128_S1x1x512x128_0_3_0_0))) (k0_pay26 (View.ld (iblk m c 2 t) (Rect.unit ![0, 4, 0, 0] ![1, 1, 512, 128] inb_S1x8x512x128_S1x1x512x128_0_4_0_0))) (View.ld (iblk m c 2 t) (Rect.unit ![0, 5, 0, 0] ![1, 1, 512, 128] inb_S1x8x512x128_S1x1x512x128_0_5_0_0)) (View.ld (iblk m c 2 t) (Rect.unit ![0, 6, 0, 0] ![1, 1, 512, 128] inb_S1x8x512x128_S1x1x512x128_0_6_0_0)) (View.ld (iblk m c 2 t) (Rect.unit ![0, 7, 0, 0] ![1, 1, 512, 128] inb_S1x8x512x128_S1x1x512x128_0_7_0_0))) (k0_pay28 (k0_pay7 (iblk m c 4 t) (iblk m c 5 t) (View.ld (iblk m c 6 t) (Rect.unit ![0, 0, 0, 0] ![1, 1, 512, 128] inb_S1x2x512x128_S1x1x512x128_0_0_0_0)) (View.ld (iblk m c 6 t) (Rect.unit ![0, 1, 0, 0] ![1, 1, 512, 128] inb_S1x2x512x128_S1x1x512x128_0_1_0_0))) k0_pay8 (k0_pay9 (iblk m c 4 t) (iblk m c 5 t) (View.ld (iblk m c 6 t) (Rect.unit ![0, 0, 0, 0] ![1, 1, 512, 128] inb_S1x2x512x128_S1x1x512x128_0_0_0_0)) (View.ld (iblk m c 6 t) (Rect.unit ![0, 1, 0, 0] ![1, 1, 512, 128] inb_S1x2x512x128_S1x1x512x128_0_1_0_0))) (k0_pay12 (iota .tc S128x1024 32 [0] iota_S128x1024_d0_w32) (iota .tc S128x1024 32 [1] iota_S128x1024_d1_w32) k0_pay10 k0_pay11)) (k0_pay29 (View.ld (iblk m c 3 t) (Rect.unit ![0, 0, 0, 0] ![1, 1, 512, 128] inb_S1x8x512x128_S1x1x512x128_0_0_0_0))) (k0_pay30 (View.ld (iblk m c 3 t) (Rect.unit ![0, 1, 0, 0] ![1, 1, 512, 128] inb_S1x8x512x128_S1x1x512x128_0_1_0_0))) (k0_pay31 (View.ld (iblk m c 3 t) (Rect.unit ![0, 2, 0, 0] ![1, 1, 512, 128] inb_S1x8x512x128_S1x1x512x128_0_2_0_0))) (k0_pay32 (View.ld (iblk m c 3 t) (Rect.unit ![0, 3, 0, 0] ![1, 1, 512, 128] inb_S1x8x512x128_S1x1x512x128_0_3_0_0))) (View.ld (iblk m c 3 t) (Rect.unit ![0, 4, 0, 0] ![1, 1, 512, 128] inb_S1x8x512x128_S1x1x512x128_0_4_0_0)) (View.ld (iblk m c 3 t) (Rect.unit ![0, 5, 0, 0] ![1, 1, 512, 128] inb_S1x8x512x128_S1x1x512x128_0_5_0_0)) (View.ld (iblk m c 3 t) (Rect.unit ![0, 6, 0, 0] ![1, 1, 512, 128] inb_S1x8x512x128_S1x1x512x128_0_6_0_0)) (View.ld (iblk m c 3 t) (Rect.unit ![0, 7, 0, 0] ![1, 1, 512, 128] inb_S1x8x512x128_S1x1x512x128_0_7_0_0)) (iblk m c 0 t) (iblk m c 7 t) (iblk m c 8 t))

/-- The residual row of a tile is the reference's. -/
theorem merged_eq (c : Dev nD) (hf : Finite m c) (t : Fin cfg0.N) (r : Fin 512) (d : Fin 1024) :
    merged m c t (ix2 r d) = Cert.Reference3Ideal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix3 ⟨(t.val * 512 + r.val) / 4096, by have := t.isLt; have h : cfg0.N = 64 := rfl; omega⟩ ⟨(t.val * 512 + r.val) % 4096, by omega⟩ d) := by
  refine (merged_at (iblk m c 4 t) (iblk m c 5 t) (View.ld (iblk m c 6 t) (Rect.unit ![0, 0, 0, 0] ![1, 1, 512, 128] inb_S1x2x512x128_S1x1x512x128_0_0_0_0)) (View.ld (iblk m c 6 t) (Rect.unit ![0, 1, 0, 0] ![1, 1, 512, 128] inb_S1x2x512x128_S1x1x512x128_0_1_0_0)) (o1 m c t) (o4 m c t) (o16 m c t) (iblk m c 0 t) (iblk m c 7 t) r d).trans ?_
  rw [Cert.Reference3Ideal.Merge.row_at, ← x_at m c t r d]
  refine congrArg (fun z => (show FVec Ideal S512x1024 .f32 from iblk m c 0 t) (ix2 r d) + z) (Finset.sum_congr rfl fun k _ => ?_)
  rw [← wo_at m c t k d]
  refine congrArg (fun z => z * (show FVec Ideal S1024x1024 .bf16 from iblk m c 7 t) (ix2 k d)) ?_
  rw [Cert.Reference3Ideal.Merge.mix_eq _ _ _ _ _ _ _ _ _ (hf.1 _ _ ⟨k.val / 128, by omega⟩) (fun g => ⟨hf.2 _ _ ⟨k.val / 128, by omega⟩ g, (hf.1 _ _ ⟨8 + k.val / 128, by omega⟩ g).2⟩)]
  unfold Cert.Reference3Ideal.Merge.stat Cert.Reference3Ideal.Merge.outs
  rw [o1_at, o4_at, o16_at]
  have h1 := s1_at m c t r
  have h4 := s4_at m c t r
  have h0 := s16_at0 m c t r
  have h6 := s16_at1 m c t r
  dsimp only at h1 h4 h0 h6
  rw [h1, h1, h4, h4, h0, h0, h6, h6]

/-- The normalised row of a tile is the reference's. -/
theorem normed_eq (c : Dev nD) (hf : Finite m c) (t : Fin cfg0.N) (r : Fin 512) (k : Fin 1024) :
    normed m c t (ix2 r k) = Cert.Reference3Ideal.Read.val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix3 ⟨(t.val * 512 + r.val) / 4096, by have := t.isLt; have h : cfg0.N = 64 := rfl; omega⟩ ⟨(t.val * 512 + r.val) % 4096, by omega⟩ k) := by
  have hx := merged_eq m c hf t r
  have hg := g_at m c t
  unfold merged at hx
  unfold normed
  revert hx hg
  generalize iblk m c 8 t = G
  intro hx hg
  dsimp only at hg
  open Cert.Reference3Ideal.Read in
  pointwise [k0_pay35, k0_pay34, val_main_v58, val_main_v57, val_main_v56, val_main_v55, val_main_v54, val_main_v53, val_main_v52, val_main_v51, val_main_v50, val_main_v49, val_main_v48, val_main_v47, val_main_v46, val_main_v41, val_main_v40, val_main_cst_5, val_main_cst_6, val_main_cst_7]
  simp only [hx, hg]

/-- The result array of the kernel is the reference's result, over the kernel's own arguments. -/
theorem final (c : Dev nD) (hf : Finite m c) : (dats m 0 c).arrAt 11 (cfgs 0).N
    = Cert.Reference3Ideal.Read.val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 11 _ (by decide +kernel) fun t _ y => ?_
  blk_simp
  rw [after0_11]
  unfold Gen.outsAt0
  frame_out
  idx_vars y
  have hlt : t.val < 64 := t.isLt
  have hH := fun k => normed_eq m c hf t y0 k
  have hX := merged_eq m c hf t y0 y1
  have hW := win_at m c t
  have hU := fun f => wout_at m c t f y1
  unfold normed at hH
  unfold merged at hX
  revert hH hX hW hU
  generalize k0_pay35 (k0_pay34 (k0_pay27 (k0_pay20 (k0_pay13 (k0_pay5 (iblk m c 4 t) (iblk m c 5 t) (View.ld (iblk m c 6 t) (Rect.unit ![0, 0, 0, 0] ![1, 1, 512, 128] inb_S1x2x512x128_S1x1x512x128_0_0_0_0)) (View.ld (iblk m c 6 t) (Rect.unit ![0, 1, 0, 0] ![1, 1, 512, 128] inb_S1x2x512x128_S1x1x512x128_0_1_0_0))) k0_pay8 (k0_pay9 (iblk m c 4 t) (iblk m c 5 t) (View.ld (iblk m c 6 t) (Rect.unit ![0, 0, 0, 0] ![1, 1, 512, 128] inb_S1x2x512x128_S1x1x512x128_0_0_0_0)) (View.ld (iblk m c 6 t) (Rect.unit ![0, 1, 0, 0] ![1, 1, 512, 128] inb_S1x2x512x128_S1x1x512x128_0_1_0_0))) (iota .tc S128x1024 32 [0] iota_S128x1024_d0_w32) (iota .tc S128x1024 32 [1] iota_S128x1024_d1_w32) k0_pay10 k0_pay11) (k0_pay14 (View.ld (iblk m c 1 t) (Rect.unit ![0, 0, 0, 0] ![1, 1, 512, 128] inb_S1x8x512x128_S1x1x512x128_0_0_0_0))) (k0_pay15 (View.ld (iblk m c 1 t) (Rect.unit ![0, 1, 0, 0] ![1, 1, 512, 128] inb_S1x8x512x128_S1x1x512x128_0_1_0_0))) (k0_pay16 (View.ld (iblk m c 1 t) (Rect.unit ![0, 2, 0, 0] ![1, 1, 512, 128] inb_S1x8x512x128_S1x1x512x128_0_2_0_0))) (k0_pay17 (View.ld (iblk m c 1 t) (Rect.unit ![0, 3, 0, 0] ![1, 1, 512, 128] inb_S1x8x512x128_S1x1x512x128_0_3_0_0))) (k0_pay18 (View.ld (iblk m c 1 t) (Rect.unit ![0, 4, 0, 0] ![1, 1, 512, 128] inb_S1x8x512x128_S1x1x512x128_0_4_0_0))) (k0_pay19 (View.ld (iblk m c 1 t) (Rect.unit ![0, 5, 0, 0] ![1, 1, 512, 128] inb_S1x8x512x128_S1x1x512x128_0_5_0_0))) (View.ld (iblk m c 1 t) (Rect.unit ![0, 6, 0, 0] ![1, 1, 512, 128] inb_S1x8x512x128_S1x1x512x128_0_6_0_0)) (View.ld (iblk m c 1 t) (Rect.unit ![0, 7, 0, 0] ![1, 1, 512, 128] inb_S1x8x512x128_S1x1x512x128_0_7_0_0))) (k0_pay21 (k0_pay6 (iblk m c 4 t) (iblk m c 5 t) (View.ld (iblk m c 6 t) (Rect.unit ![0, 0, 0, 0] ![1, 1, 512, 128] inb_S1x2x512x128_S1x1x512x128_0_0_0_0)) (View.ld (iblk m c 6 t) (Rect.unit ![0, 1, 0, 0] ![1, 1, 512, 128] inb_S1x2x512x128_S1x1x512x128_0_1_0_0))) k0_pay8 (k0_pay9 (iblk m c 4 t) (iblk m c 5 t) (View.ld (iblk m c 6 t) (Rect.unit ![0, 0, 0, 0] ![1, 1, 512, 128] inb_S1x2x512x128_S1x1x512x128_0_0_0_0)) (View.ld (iblk m c 6 t) (Rect.unit ![0, 1, 0, 0] ![1, 1, 512, 128] inb_S1x2x512x128_S1x1x512x128_0_1_0_0))) (k0_pay12 (iota .tc S128x1024 32 [0] iota_S128x1024_d0_w32) (iota .tc S128x1024 32 [1] iota_S128x1024_d1_w32) k0_pay10 k0_pay11)) (k0_pay22 (View.ld (iblk m c 2 t) (Rect.unit ![0, 0, 0, 0] ![1, 1, 512, 128] inb_S1x8x512x128_S1x1x512x128_0_0_0_0))) (k0_pay23 (View.ld (iblk m c 2 t) (Rect.unit ![0, 1, 0, 0] ![1, 1, 512, 128] inb_S1x8x512x128_S1x1x512x128_0_1_0_0))) (k0_pay24 (View.ld (iblk m c 2 t) (Rect.unit ![0, 2, 0, 0] ![1, 1, 512, 128] inb_S1x8x512x128_S1x1x512x128_0_2_0_0))) (k0_pay25 (View.ld (iblk m c 2 t) (Rect.unit ![0, 3, 0, 0] ![1, 1, 512, 128] inb_S1x8x512x128_S1x1x512x128_0_3_0_0))) (k0_pay26 (View.ld (iblk m c 2 t) (Rect.unit ![0, 4, 0, 0] ![1, 1, 512, 128] inb_S1x8x512x128_S1x1x512x128_0_4_0_0))) (View.ld (iblk m c 2 t) (Rect.unit ![0, 5, 0, 0] ![1, 1, 512, 128] inb_S1x8x512x128_S1x1x512x128_0_5_0_0)) (View.ld (iblk m c 2 t) (Rect.unit ![0, 6, 0, 0] ![1, 1, 512, 128] inb_S1x8x512x128_S1x1x512x128_0_6_0_0)) (View.ld (iblk m c 2 t) (Rect.unit ![0, 7, 0, 0] ![1, 1, 512, 128] inb_S1x8x512x128_S1x1x512x128_0_7_0_0))) (k0_pay28 (k0_pay7 (iblk m c 4 t) (iblk m c 5 t) (View.ld (iblk m c 6 t) (Rect.unit ![0, 0, 0, 0] ![1, 1, 512, 128] inb_S1x2x512x128_S1x1x512x128_0_0_0_0)) (View.ld (iblk m c 6 t) (Rect.unit ![0, 1, 0, 0] ![1, 1, 512, 128] inb_S1x2x512x128_S1x1x512x128_0_1_0_0))) k0_pay8 (k0_pay9 (iblk m c 4 t) (iblk m c 5 t) (View.ld (iblk m c 6 t) (Rect.unit ![0, 0, 0, 0] ![1, 1, 512, 128] inb_S1x2x512x128_S1x1x512x128_0_0_0_0)) (View.ld (iblk m c 6 t) (Rect.unit ![0, 1, 0, 0] ![1, 1, 512, 128] inb_S1x2x512x128_S1x1x512x128_0_1_0_0))) (k0_pay12 (iota .tc S128x1024 32 [0] iota_S128x1024_d0_w32) (iota .tc S128x1024 32 [1] iota_S128x1024_d1_w32) k0_pay10 k0_pay11)) (k0_pay29 (View.ld (iblk m c 3 t) (Rect.unit ![0, 0, 0, 0] ![1, 1, 512, 128] inb_S1x8x512x128_S1x1x512x128_0_0_0_0))) (k0_pay30 (View.ld (iblk m c 3 t) (Rect.unit ![0, 1, 0, 0] ![1, 1, 512, 128] inb_S1x8x512x128_S1x1x512x128_0_1_0_0))) (k0_pay31 (View.ld (iblk m c 3 t) (Rect.unit ![0, 2, 0, 0] ![1, 1, 512, 128] inb_S1x8x512x128_S1x1x512x128_0_2_0_0))) (k0_pay32 (View.ld (iblk m c 3 t) (Rect.unit ![0, 3, 0, 0] ![1, 1, 512, 128] inb_S1x8x512x128_S1x1x512x128_0_3_0_0))) (View.ld (iblk m c 3 t) (Rect.unit ![0, 4, 0, 0] ![1, 1, 512, 128] inb_S1x8x512x128_S1x1x512x128_0_4_0_0)) (View.ld (iblk m c 3 t) (Rect.unit ![0, 5, 0, 0] ![1, 1, 512, 128] inb_S1x8x512x128_S1x1x512x128_0_5_0_0)) (View.ld (iblk m c 3 t) (Rect.unit ![0, 6, 0, 0] ![1, 1, 512, 128] inb_S1x8x512x128_S1x1x512x128_0_6_0_0)) (View.ld (iblk m c 3 t) (Rect.unit ![0, 7, 0, 0] ![1, 1, 512, 128] inb_S1x8x512x128_S1x1x512x128_0_7_0_0)) (iblk m c 0 t) (iblk m c 7 t) (iblk m c 8 t)) = H
  generalize k0_pay33 (k0_pay27 (k0_pay20 (k0_pay13 (k0_pay5 (iblk m c 4 t) (iblk m c 5 t) (View.ld (iblk m c 6 t) (Rect.unit ![0, 0, 0, 0] ![1, 1, 512, 128] inb_S1x2x512x128_S1x1x512x128_0_0_0_0)) (View.ld (iblk m c 6 t) (Rect.unit ![0, 1, 0, 0] ![1, 1, 512, 128] inb_S1x2x512x128_S1x1x512x128_0_1_0_0))) k0_pay8 (k0_pay9 (iblk m c 4 t) (iblk m c 5 t) (View.ld (iblk m c 6 t) (Rect.unit ![0, 0, 0, 0] ![1, 1, 512, 128] inb_S1x2x512x128_S1x1x512x128_0_0_0_0)) (View.ld (iblk m c 6 t) (Rect.unit ![0, 1, 0, 0] ![1, 1, 512, 128] inb_S1x2x512x128_S1x1x512x128_0_1_0_0))) (iota .tc S128x1024 32 [0] iota_S128x1024_d0_w32) (iota .tc S128x1024 32 [1] iota_S128x1024_d1_w32) k0_pay10 k0_pay11) (k0_pay14 (View.ld (iblk m c 1 t) (Rect.unit ![0, 0, 0, 0] ![1, 1, 512, 128] inb_S1x8x512x128_S1x1x512x128_0_0_0_0))) (k0_pay15 (View.ld (iblk m c 1 t) (Rect.unit ![0, 1, 0, 0] ![1, 1, 512, 128] inb_S1x8x512x128_S1x1x512x128_0_1_0_0))) (k0_pay16 (View.ld (iblk m c 1 t) (Rect.unit ![0, 2, 0, 0] ![1, 1, 512, 128] inb_S1x8x512x128_S1x1x512x128_0_2_0_0))) (k0_pay17 (View.ld (iblk m c 1 t) (Rect.unit ![0, 3, 0, 0] ![1, 1, 512, 128] inb_S1x8x512x128_S1x1x512x128_0_3_0_0))) (k0_pay18 (View.ld (iblk m c 1 t) (Rect.unit ![0, 4, 0, 0] ![1, 1, 512, 128] inb_S1x8x512x128_S1x1x512x128_0_4_0_0))) (k0_pay19 (View.ld (iblk m c 1 t) (Rect.unit ![0, 5, 0, 0] ![1, 1, 512, 128] inb_S1x8x512x128_S1x1x512x128_0_5_0_0))) (View.ld (iblk m c 1 t) (Rect.unit ![0, 6, 0, 0] ![1, 1, 512, 128] inb_S1x8x512x128_S1x1x512x128_0_6_0_0)) (View.ld (iblk m c 1 t) (Rect.unit ![0, 7, 0, 0] ![1, 1, 512, 128] inb_S1x8x512x128_S1x1x512x128_0_7_0_0))) (k0_pay21 (k0_pay6 (iblk m c 4 t) (iblk m c 5 t) (View.ld (iblk m c 6 t) (Rect.unit ![0, 0, 0, 0] ![1, 1, 512, 128] inb_S1x2x512x128_S1x1x512x128_0_0_0_0)) (View.ld (iblk m c 6 t) (Rect.unit ![0, 1, 0, 0] ![1, 1, 512, 128] inb_S1x2x512x128_S1x1x512x128_0_1_0_0))) k0_pay8 (k0_pay9 (iblk m c 4 t) (iblk m c 5 t) (View.ld (iblk m c 6 t) (Rect.unit ![0, 0, 0, 0] ![1, 1, 512, 128] inb_S1x2x512x128_S1x1x512x128_0_0_0_0)) (View.ld (iblk m c 6 t) (Rect.unit ![0, 1, 0, 0] ![1, 1, 512, 128] inb_S1x2x512x128_S1x1x512x128_0_1_0_0))) (k0_pay12 (iota .tc S128x1024 32 [0] iota_S128x1024_d0_w32) (iota .tc S128x1024 32 [1] iota_S128x1024_d1_w32) k0_pay10 k0_pay11)) (k0_pay22 (View.ld (iblk m c 2 t) (Rect.unit ![0, 0, 0, 0] ![1, 1, 512, 128] inb_S1x8x512x128_S1x1x512x128_0_0_0_0))) (k0_pay23 (View.ld (iblk m c 2 t) (Rect.unit ![0, 1, 0, 0] ![1, 1, 512, 128] inb_S1x8x512x128_S1x1x512x128_0_1_0_0))) (k0_pay24 (View.ld (iblk m c 2 t) (Rect.unit ![0, 2, 0, 0] ![1, 1, 512, 128] inb_S1x8x512x128_S1x1x512x128_0_2_0_0))) (k0_pay25 (View.ld (iblk m c 2 t) (Rect.unit ![0, 3, 0, 0] ![1, 1, 512, 128] inb_S1x8x512x128_S1x1x512x128_0_3_0_0))) (k0_pay26 (View.ld (iblk m c 2 t) (Rect.unit ![0, 4, 0, 0] ![1, 1, 512, 128] inb_S1x8x512x128_S1x1x512x128_0_4_0_0))) (View.ld (iblk m c 2 t) (Rect.unit ![0, 5, 0, 0] ![1, 1, 512, 128] inb_S1x8x512x128_S1x1x512x128_0_5_0_0)) (View.ld (iblk m c 2 t) (Rect.unit ![0, 6, 0, 0] ![1, 1, 512, 128] inb_S1x8x512x128_S1x1x512x128_0_6_0_0)) (View.ld (iblk m c 2 t) (Rect.unit ![0, 7, 0, 0] ![1, 1, 512, 128] inb_S1x8x512x128_S1x1x512x128_0_7_0_0))) (k0_pay28 (k0_pay7 (iblk m c 4 t) (iblk m c 5 t) (View.ld (iblk m c 6 t) (Rect.unit ![0, 0, 0, 0] ![1, 1, 512, 128] inb_S1x2x512x128_S1x1x512x128_0_0_0_0)) (View.ld (iblk m c 6 t) (Rect.unit ![0, 1, 0, 0] ![1, 1, 512, 128] inb_S1x2x512x128_S1x1x512x128_0_1_0_0))) k0_pay8 (k0_pay9 (iblk m c 4 t) (iblk m c 5 t) (View.ld (iblk m c 6 t) (Rect.unit ![0, 0, 0, 0] ![1, 1, 512, 128] inb_S1x2x512x128_S1x1x512x128_0_0_0_0)) (View.ld (iblk m c 6 t) (Rect.unit ![0, 1, 0, 0] ![1, 1, 512, 128] inb_S1x2x512x128_S1x1x512x128_0_1_0_0))) (k0_pay12 (iota .tc S128x1024 32 [0] iota_S128x1024_d0_w32) (iota .tc S128x1024 32 [1] iota_S128x1024_d1_w32) k0_pay10 k0_pay11)) (k0_pay29 (View.ld (iblk m c 3 t) (Rect.unit ![0, 0, 0, 0] ![1, 1, 512, 128] inb_S1x8x512x128_S1x1x512x128_0_0_0_0))) (k0_pay30 (View.ld (iblk m c 3 t) (Rect.unit ![0, 1, 0, 0] ![1, 1, 512, 128] inb_S1x8x512x128_S1x1x512x128_0_1_0_0))) (k0_pay31 (View.ld (iblk m c 3 t) (Rect.unit ![0, 2, 0, 0] ![1, 1, 512, 128] inb_S1x8x512x128_S1x1x512x128_0_2_0_0))) (k0_pay32 (View.ld (iblk m c 3 t) (Rect.unit ![0, 3, 0, 0] ![1, 1, 512, 128] inb_S1x8x512x128_S1x1x512x128_0_3_0_0))) (View.ld (iblk m c 3 t) (Rect.unit ![0, 4, 0, 0] ![1, 1, 512, 128] inb_S1x8x512x128_S1x1x512x128_0_4_0_0)) (View.ld (iblk m c 3 t) (Rect.unit ![0, 5, 0, 0] ![1, 1, 512, 128] inb_S1x8x512x128_S1x1x512x128_0_5_0_0)) (View.ld (iblk m c 3 t) (Rect.unit ![0, 6, 0, 0] ![1, 1, 512, 128] inb_S1x8x512x128_S1x1x512x128_0_6_0_0)) (View.ld (iblk m c 3 t) (Rect.unit ![0, 7, 0, 0] ![1, 1, 512, 128] inb_S1x8x512x128_S1x1x512x128_0_7_0_0)) (iblk m c 0 t) (iblk m c 7 t) = X
  generalize iblk m c 9 t = W
  generalize iblk m c 10 t = U
  intro hH hX hW hU
  dsimp only at hW hU
  pointwise [k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53]
  refine Eq.trans ?_ (Eq.trans (Cert.Reference3Ideal.Merge.res_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) ⟨t.val * 512 + y0.val, by omega⟩ y1).symm ?_)
  · unfold Cert.Ffn.outAt
    rw [Cert.Ffn.sum_chunks]
    unfold Cert.Ffn.hiddenAt Cert.Ffn.gateAt Cert.Ffn.upAt
    simp only [← hH, ← hX, ← hW, ← hU, ← Nat.add_assoc, Nat.reduceAdd]
  · blk_point [idx t]

end Cert.Kernel3Ideal.Merge

end
-- ==== Proof.Merge.Pre.lean ====
module

public import proofs.«01_k».proof.Proof.Gen.Reference3Ideal.Read
public import proofs.«01_k».proof.Proof.Ffn.Spec
public import proofs.«01_k».proof.Proof.Merge.Spec
public import proofs.«01_k».proof.Proof.Gen.Pre_softmax_stats
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.Reference3Ideal.Merge

open Cert.Reference3Ideal Cert.Reference3Ideal.Read

/-- The first answer of the precondition at one place: a finite statistic. -/
theorem range_at [Cert.Pre_softmax_stats.Facts] (x : FVec Ideal S8x4096x1024 .f32) (o1 o4 o16 : FVec Ideal S8x8x4096x128 .bf16) (s1 s4 : FVec Ideal S8x1x4096x128 .f32) (s16 : FVec Ideal S8x2x4096x128 .f32) (w : FVec Ideal S1x1024x1024 .f32) (n : FVec Ideal S2x3x1024 .f32) (u : FVec Ideal S2x2x1024x5632 .f32) (v : FVec Ideal S2x2x2816x1024 .f32) (g : Fin 3) (b : Fin 8) (s : Fin 4096) (j : Fin 16) :
    (Cert.Pre_softmax_stats.fn (F := Ideal) x o1 o4 o16 s1 s4 s16 w n u v).1 (ix4 g b s j) = IntOp.andi (FloatOps.cmpf (F := Ideal) (φ := .f32) .ogt (stat s1 s4 s16 b s ⟨j.val, by omega⟩ g) (Ideal.ofBits .f32 0xFF800000#32))
      (FloatOps.cmpf (F := Ideal) (φ := .f32) .olt (stat s1 s4 s16 b s ⟨j.val, by omega⟩ g) (Ideal.ofBits .f32 0x7F800000#32)) := by
  rw [← stat_at]
  unfold Cert.Pre_softmax_stats.fn val_main_v6
  dsimp only
  fin_cases g <;> dsimp only [Fin.zero_eta, Fin.mk_one, Fin.reduceFinMk] <;>
    pointwise [val_main_v6, val_main_v5, val_main_v4, val_main_v3, val_main_v2, val_main_v1, val_main_v0, val_main_cst, val_main_cst_0, val_main_cst_1]

/-- The second answer of the precondition at one place: a positive denominator. -/
theorem pos_at [Cert.Pre_softmax_stats.Facts] (x : FVec Ideal S8x4096x1024 .f32) (o1 o4 o16 : FVec Ideal S8x8x4096x128 .bf16) (s1 s4 : FVec Ideal S8x1x4096x128 .f32) (s16 : FVec Ideal S8x2x4096x128 .f32) (w : FVec Ideal S1x1024x1024 .f32) (n : FVec Ideal S2x3x1024 .f32) (u : FVec Ideal S2x2x1024x5632 .f32) (v : FVec Ideal S2x2x2816x1024 .f32) (g : Fin 3) (b : Fin 8) (s : Fin 4096) (j : Fin 8) :
    (Cert.Pre_softmax_stats.fn (F := Ideal) x o1 o4 o16 s1 s4 s16 w n u v).2 (ix4 g b s j) = FloatOps.cmpf (F := Ideal) (φ := .f32) .ogt (stat s1 s4 s16 b s ⟨8 + j.val, by omega⟩ g) (Ideal.ofBits .f32 0x00000000#32) := by
  rw [← stat_at]
  unfold Cert.Pre_softmax_stats.fn
  dsimp only
  fin_cases g <;> dsimp only [Fin.zero_eta, Fin.mk_one, Fin.reduceFinMk] <;>
    pointwise [val_main_v6, val_main_v5, val_main_v4, val_main_v3, val_main_v2, val_main_v1, val_main_v0, val_main_cst, val_main_cst_0, val_main_cst_1]

/-- Under the precondition the maxima of the heads and their denominators are finite. -/
theorem finite [Cert.Pre_softmax_stats.Facts] (x : FVec Ideal S8x4096x1024 .f32) (o1 o4 o16 : FVec Ideal S8x8x4096x128 .bf16) (s1 s4 : FVec Ideal S8x1x4096x128 .f32) (s16 : FVec Ideal S8x2x4096x128 .f32) (w : FVec Ideal S1x1024x1024 .f32) (n : FVec Ideal S2x3x1024 .f32) (u : FVec Ideal S2x2x1024x5632 .f32) (v : FVec Ideal S2x2x2816x1024 .f32)
    (h : (Cert.Pre_softmax_stats.fn (F := Ideal) x o1 o4 o16 s1 s4 s16 w n u v).1 = fun _ => 1#1) (b : Fin 8) (s : Fin 4096) (j : Fin 16) (g : Fin 3) :
    ⊥ < stat s1 s4 s16 b s ⟨j.val, by omega⟩ g ∧ stat s1 s4 s16 b s ⟨j.val, by omega⟩ g < ⊤ := by
  have e := (range_at x o1 o4 o16 s1 s4 s16 w n u v g b s j).symm.trans (congrFun h _)
  rw [show Ideal.ofBits .f32 0xFF800000#32 = ⊥ by simp [Ideal.ofBits, Ideal.ieee],
    show Ideal.ofBits .f32 0x7F800000#32 = ⊤ by simp [Ideal.ofBits, Ideal.ieee]] at e
  simpa [Ideal.cmpf_def, Ideal.cmp, WordCmp.andi_ofBool, WordCmp.ofBool_eq_one_iff] using e

/-- Under the precondition the denominators of the heads are positive. -/
theorem positive [Cert.Pre_softmax_stats.Facts] (x : FVec Ideal S8x4096x1024 .f32) (o1 o4 o16 : FVec Ideal S8x8x4096x128 .bf16) (s1 s4 : FVec Ideal S8x1x4096x128 .f32) (s16 : FVec Ideal S8x2x4096x128 .f32) (w : FVec Ideal S1x1024x1024 .f32) (n : FVec Ideal S2x3x1024 .f32) (u : FVec Ideal S2x2x1024x5632 .f32) (v : FVec Ideal S2x2x2816x1024 .f32)
    (h : (Cert.Pre_softmax_stats.fn (F := Ideal) x o1 o4 o16 s1 s4 s16 w n u v).2 = fun _ => 1#1) (b : Fin 8) (s : Fin 4096) (j : Fin 8) (g : Fin 3) :
    0 < stat s1 s4 s16 b s ⟨8 + j.val, by omega⟩ g := by
  have e := (pos_at x o1 o4 o16 s1 s4 s16 w n u v g b s j).symm.trans (congrFun h _)
  rw [show Ideal.ofBits .f32 0x00000000#32 = 0 by simp [Ideal.ofBits, Ideal.ieee]] at e
  simpa [Ideal.cmpf_def, Ideal.cmp, WordCmp.ofBool_eq_one_iff] using e

end Cert.Reference3Ideal.Merge

end
-- ==== Proof.Qkv.Point.lean ====
module

public import Idealize.ShloMosaic.Lib.Pointwise

@[expose] public section

noncomputable section

open Idealize.ShloMosaic

namespace Cert.Qkv

/-- A row of one head's columns, normalised by its mean square and given its gain, at one lane. -/
def normAt (a : Fin 128 → EReal) (g : EReal) (e : Fin 128) : EReal :=
  a e * Ideal.rsqrt (Ideal.div (∑ x : Fin 128, a x * a x) (Ideal.ofBits .f32 1124073472#32)
    + Ideal.ofBits .f32 897988541#32) * g

/-- A row times one column of the group's weights: part `j` (query, key or value) of head `h`. -/
def projAt (x : Fin 1024 → EReal) (w : Fin 1024 → Fin 3072 → EReal) (j : Fin 3) (h : Fin 8) (e : Fin 128) : EReal :=
  ∑ k : Fin 1024, x k * w k ⟨j.val * 1024 + h.val * 128 + e.val, by omega⟩

/-- What the call gives at part `j`, head `h` and lane `e` of a row: queries and keys normalised, values as they are. -/
def outAt (x : Fin 1024 → EReal) (w : Fin 1024 → Fin 3072 → EReal) (gq gk : Fin 128 → EReal)
    (j : Fin 3) (h : Fin 8) (e : Fin 128) : EReal :=
  (![normAt (projAt x w 0 h) (gq e) e, normAt (projAt x w 1 h) (gk e) e, projAt x w 2 h e] : Fin 3 → EReal) j

end Cert.Qkv

end
-- ==== Proof.Qkv.Spec.lean ====
module

public import proofs.«01_k».proof.Proof.Gen.Reference4Ideal.Read
public import proofs.«01_k».proof.Proof.Qkv.Point
public import Idealize.ShloMosaic.Lib.Pipeline.ValueKit

@[expose] public section

set_option maxRecDepth 16384

noncomputable section

open Idealize.ShloMosaic Idealize.ShloMosaic.TcCoe Idealize.SL.Sem

namespace Cert.Reference4Ideal.Qkv

open Cert.Reference4Ideal Cert.Reference4Ideal.Read

variable (x0 : FVec Ideal S8x4096x1024 .f32) (x1 : FVec Ideal S2x3x1024 .f32) (x2 : FVec Ideal S1x1024x9216 .f32)
  (x3 x4 : FVec Ideal S1x3x128 .f32)

/-- The group's columns of the weights. -/
def colAt (k : Fin 1024) (f : Fin 3072) : EReal := x2 (ix3 0 k ⟨0 * 3072 + f.val, by omega⟩)

/-- The three projections, point by point. -/
theorem proj_at (b : Fin 8) (s : Fin 4096) (j : Fin 3) (h : Fin 8) (e : Fin 128) :
    val_main_v19 (F := Ideal) x0 x1 x2 (ix5 b s j h e)
      = Cert.Qkv.projAt (fun k => val_main_v14 (F := Ideal) x0 x1 (ix3 b s k)) (colAt x2) j h e := by
  unfold Cert.Qkv.projAt colAt
  pointwise [val_main_v19, val_main_v18, val_main_v17, val_main_v16, val_main_v15]
  all_goals simp only [Nat.add_assoc]

/-- The queries: normalised per head, with the gain and the scale. -/
theorem q_at (b : Fin 8) (s : Fin 4096) (h : Fin 8) (e : Fin 128) :
    val_main_v38 (F := Ideal) x0 x1 x2 x3 (ix4 b s h e)
      = Cert.Qkv.normAt (fun e => val_main_v19 (F := Ideal) x0 x1 x2 (ix5 b s 0 h e))
          (x3 (ix3 0 0 e) * Ideal.ofBits .f32 1035273459#32) e := by
  unfold Cert.Qkv.normAt
  rw [← mul_assoc]
  pointwise [val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_cst_2, val_main_cst_3, val_main_cst_4, val_main_cst_5]

/-- The keys: normalised per head, with the gain. -/
theorem k_at (b : Fin 8) (s : Fin 4096) (h : Fin 8) (e : Fin 128) :
    val_main_v55 (F := Ideal) x0 x1 x2 x4 (ix4 b s h e)
      = Cert.Qkv.normAt (fun e => val_main_v19 (F := Ideal) x0 x1 x2 (ix5 b s 1 h e)) (x4 (ix3 0 0 e)) e := by
  unfold Cert.Qkv.normAt
  pointwise [val_main_v55, val_main_v54, val_main_v53, val_main_v52, val_main_v51, val_main_v50, val_main_v49, val_main_v48, val_main_v47, val_main_v46, val_main_v45, val_main_v44, val_main_v43, val_main_v42, val_main_v41, val_main_v40, val_main_v39, val_main_cst_6, val_main_cst_7, val_main_cst_8]

/-- The values: the third projection as it is. -/
theorem v_at (b : Fin 8) (s : Fin 4096) (h : Fin 8) (e : Fin 128) :
    val_main_v57 (F := Ideal) x0 x1 x2 (ix4 b s h e) = val_main_v19 (F := Ideal) x0 x1 x2 (ix5 b s 2 h e) := by
  pointwise [val_main_v57, val_main_v56]

/-- The unit piece of each part holds it at that place. -/
theorem piece_at (b : Fin 8) (z : Fin 1) (s : Fin 4096) (h : Fin 8) (e : Fin 128) :
    val_main_v58 (F := Ideal) x0 x1 x2 x3 (ix5 b z s h e) = val_main_v38 (F := Ideal) x0 x1 x2 x3 (ix4 b s h e)
    ∧ val_main_v59 (F := Ideal) x0 x1 x2 x4 (ix5 b z s h e) = val_main_v55 (F := Ideal) x0 x1 x2 x4 (ix4 b s h e)
    ∧ val_main_v60 (F := Ideal) x0 x1 x2 (ix5 b z s h e) = val_main_v57 (F := Ideal) x0 x1 x2 (ix4 b s h e) := by
  refine ⟨?_, ?_, ?_⟩
  · rw [val_main_v58_apply]
    congr 1
    funext a
    match a with
    | ⟨0, _⟩ => rfl
    | ⟨1, _⟩ => rfl
    | ⟨2, _⟩ => rfl
    | ⟨3, _⟩ => rfl
  · rw [val_main_v59_apply]
    congr 1
    funext a
    match a with
    | ⟨0, _⟩ => rfl
    | ⟨1, _⟩ => rfl
    | ⟨2, _⟩ => rfl
    | ⟨3, _⟩ => rfl
  · rw [val_main_v60_apply]
    congr 1
    funext a
    match a with
    | ⟨0, _⟩ => rfl
    | ⟨1, _⟩ => rfl
    | ⟨2, _⟩ => rfl
    | ⟨3, _⟩ => rfl

/-- The queries, keys and values side by side. -/
theorem stack_at (b : Fin 8) (j : Fin 3) (s : Fin 4096) (h : Fin 8) (e : Fin 128) :
    val_main_v61 (F := Ideal) x0 x1 x2 x3 x4 (ix5 b j s h e)
      = Cert.Qkv.outAt (fun k => val_main_v14 (F := Ideal) x0 x1 (ix3 b s k)) (colAt x2)
          (fun e => x3 (ix3 0 0 e) * Ideal.ofBits .f32 1035273459#32) (fun e => x4 (ix3 0 0 e)) j h e := by
  have hq := q_at x0 x1 x2 x3 b s h e
  have hk := k_at x0 x1 x2 x4 b s h e
  have hv := v_at x0 x1 x2 b s h e
  simp only [proj_at] at hq hk hv
  unfold val_main_v61
  concat_tiles i hj
  all_goals
    have hi : i = ix5 b (i 1) s h e := by
      funext a
      match a with
      | ⟨0, _⟩ => exact Fin.ext hj0
      | ⟨1, _⟩ => rfl
      | ⟨2, _⟩ => exact Fin.ext hj2
      | ⟨3, _⟩ => exact Fin.ext hj3
      | ⟨4, _⟩ => exact Fin.ext hj4
    rw [hi]
  · obtain rfl : j = 0 := Fin.ext hj
    exact ((piece_at x0 x1 x2 x3 x4 b (i 1) s h e).1).trans hq
  · obtain rfl : j = 1 := Fin.ext hj
    exact ((piece_at x0 x1 x2 x3 x4 b (i 1) s h e).2.1).trans hk
  · obtain rfl : j = 2 := Fin.ext hj
    exact ((piece_at x0 x1 x2 x3 x4 b (i 1) s h e).2.2).trans hv

/-- The result: stream `r`'s row `s` is the row `s * 1 + r` of the group's projections. -/
theorem res_at (b : Fin 8) (j : Fin 3) (h : Fin 8) (r : Fin 1) (s : Fin 4096) (e : Fin 128) :
    val_main_v64 (F := Ideal) x0 x1 x2 x3 x4 (ix6 b j h r s e)
      = Cert.Qkv.outAt (fun k => val_main_v14 (F := Ideal) x0 x1 (ix3 b ⟨s.val * 1 + r.val, by omega⟩ k)) (colAt x2)
          (fun e => x3 (ix3 0 0 e) * Ideal.ofBits .f32 1035273459#32) (fun e => x4 (ix3 0 0 e)) j h e := by
  rw [← stack_at]
  rw [val_main_v64_apply, val_main_v63_apply]
  have hi : idx_main_v63 (ix6 b j h r s e) = ix6 b j s r h e := by
    funext a
    match a with
    | ⟨0, _⟩ => rfl
    | ⟨1, _⟩ => rfl
    | ⟨2, _⟩ => rfl
    | ⟨3, _⟩ => rfl
    | ⟨4, _⟩ => rfl
    | ⟨5, _⟩ => rfl
  rw [hi]
  show val_main_v62 (F := Ideal) x0 x1 x2 x3 x4 (ix6 b j s r h e) = _
  pointwise [val_main_v62]

end Cert.Reference4Ideal.Qkv

end
-- ==== Proof.Qkv.Kernel.lean ====
module

public import proofs.«01_k».proof.Proof.Gen.Kernel4Ideal.Frame
public import Idealize.ShloMosaic.Lib.Pipeline.ValueKit
public import Idealize.ShloMosaic.Lib.Pointwise
public import Idealize.ShloMosaic.Lib.Claim
public import proofs.«01_k».proof.Proof.Qkv.Spec

@[expose] public section

set_option maxRecDepth 16384

noncomputable section

open Idealize.ShloMosaic Idealize.ShloMosaic.TcCoe Idealize.SL.Sem
open Idealize.ShloMosaic.Pipeline (Dat)

namespace Cert.Kernel4Ideal.Qkv

open Cert.Kernel4Ideal Cert.Kernel4Ideal.Gen

variable (m : (ℓ : Loc nD τ sig) → Buf (Elt Ideal) ℓ)

/-- Which block each window shows at a grid point: the rows go with the point, the rest stays. -/
theorem idx : ∀ t : Fin cfg0.N, win0_0.index t = ![t.val, 0] ∧ win0_1.index t = ![0, 0]
    ∧ win0_2.index t = ![0, 0] ∧ win0_3.index t = ![0, 0]
    ∧ win0_4.index t = ![t.val / 4, 0, 0, 0, t.val % 4, 0] :=
  (by decide +kernel : ∀ t : Fin grid0.N, _)

/-- The rows the products read are the reference's normalised rows. -/
theorem norm_at (c : Dev nD) (t : Fin cfg0.N) (r k : Fin 1024) :
    k0_pay2 (iblk m c 0 t) (iblk m c 1 t) (ix2 r k)
      = Cert.Reference4Ideal.Read.val_main_v14 (F := Ideal) (m ((c : Thread nD τ).loc main_arg0)) (m ((c : Thread nD τ).loc main_arg1))
          (ix3 ⟨t.val / 4, by have := t.isLt; have h : cfg0.N = 32 := rfl; omega⟩ ⟨t.val % 4 * 1024 + r.val, by omega⟩ k) := by
  open Cert.Reference4Ideal.Read in
  pointwise [k0_pay2, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  blk_point [iblk, V, idx t]

/-- The block of the weights is the group's columns. -/
theorem w_at (c : Dev nD) (t : Fin cfg0.N) (k : Fin 1024) (f : Fin 3072) :
    (show FVec Ideal S1024x3072 .bf16 from iblk m c 2 t) (ix2 k f)
      = Cert.Reference4Ideal.Qkv.colAt (m ((c : Thread nD τ).loc main_arg2)) k f := by
  unfold Cert.Reference4Ideal.Qkv.colAt
  blk_point [iblk, V, idx t]

/-- The first row of gains is the queries' gain, once per head, with the scale. -/
theorem gq_at (c : Dev nD) (t : Fin cfg0.N) (f : Fin 1024) :
    (show FVec Ideal S2x1024 .f32 from iblk m c 3 t) (ix2 0 f)
      = (show FVec Ideal S1x3x128 .f32 from m ((c : Thread nD τ).loc main_arg3)) (ix3 0 0 ⟨f.val % 128, by omega⟩) * Ideal.ofBits .f32 1035273459#32 := by
  have h : (show FVec Ideal S2x1024 .f32 from iblk m c 3 t) (ix2 0 f) = (show FVec Ideal S2x1024 .f32 from V m c main_v14) (ix2 0 f) := by
    blk_point [iblk, idx t]
  rw [h]
  dsimp only [V]
  entry_read
  pointwise

/-- The second row of gains is the keys' gain, once per head. -/
theorem gk_at (c : Dev nD) (t : Fin cfg0.N) (f : Fin 1024) :
    (show FVec Ideal S2x1024 .f32 from iblk m c 3 t) (ix2 1 f)
      = (m ((c : Thread nD τ).loc main_arg4)) (ix3 0 0 ⟨f.val % 128, by omega⟩) := by
  have h : (show FVec Ideal S2x1024 .f32 from iblk m c 3 t) (ix2 1 f) = (show FVec Ideal S2x1024 .f32 from V m c main_v14) (ix2 1 f) := by
    blk_point [iblk, idx t]
  rw [h]
  dsimp only [V]
  entry_read
  pointwise

theorem outAt_q (x : Fin 1024 → EReal) (w : Fin 1024 → Fin 3072 → EReal) (gq gk : Fin 128 → EReal) (h : Fin 8) (e : Fin 128) :
    Cert.Qkv.outAt x w gq gk 0 h e = Cert.Qkv.normAt (Cert.Qkv.projAt x w 0 h) (gq e) e := rfl

theorem outAt_k (x : Fin 1024 → EReal) (w : Fin 1024 → Fin 3072 → EReal) (gq gk : Fin 128 → EReal) (h : Fin 8) (e : Fin 128) :
    Cert.Qkv.outAt x w gq gk 1 h e = Cert.Qkv.normAt (Cert.Qkv.projAt x w 1 h) (gk e) e := rfl

theorem outAt_v (x : Fin 1024 → EReal) (w : Fin 1024 → Fin 3072 → EReal) (gq gk : Fin 128 → EReal) (h : Fin 8) (e : Fin 128) :
    Cert.Qkv.outAt x w gq gk 2 h e = Cert.Qkv.projAt x w 2 h e := rfl

/-- What the call stores at a place of its block, over the block's own rows, weights and gains. -/
theorem out_at (c : Dev nD) (t : Fin cfg0.N) (j : Fin 3) (h : Fin 8) (r : Fin 1024) (e : Fin 128) (y : S1x3x8x1x1024x128.Idx)
    (y1 : (y 1).val = j.val) (y2 : (y 2).val = h.val) (y4 : (y 4).val = r.val) (y5 : (y 5).val = e.val) :
    outsAt0 m c t y = Cert.Qkv.outAt (fun k => k0_pay2 (iblk m c 0 t) (iblk m c 1 t) (ix2 r k))
      (fun k f => (show FVec Ideal S1024x3072 .bf16 from iblk m c 2 t) (ix2 k f))
      (fun e => (show FVec Ideal S2x1024 .f32 from iblk m c 3 t) (ix2 0 ⟨h.val * 128 + e.val, by omega⟩))
      (fun e => (show FVec Ideal S2x1024 .f32 from iblk m c 3 t) (ix2 1 ⟨h.val * 128 + e.val, by omega⟩)) j h e := by
  unfold outsAt0
  frame_out
  generalize k0_pay2 (iblk m c 0 t) (iblk m c 1 t) = H
  generalize iblk m c 2 t = W
  generalize iblk m c 3 t = G
  skip
  canon_tiles x hx
  all_goals
    first
      | (have ej : j.val = 0 := by omega); obtain rfl : j = 0 := Fin.ext ej
      | (have ej : j.val = 1 := by omega); obtain rfl : j = 1 := Fin.ext ej
      | (have ej : j.val = 2 := by omega); obtain rfl : j = 2 := Fin.ext ej
    first
      | (have eh : h.val = 0 := by omega); obtain rfl : h = 0 := Fin.ext eh
      | (have eh : h.val = 1 := by omega); obtain rfl : h = 1 := Fin.ext eh
      | (have eh : h.val = 2 := by omega); obtain rfl : h = 2 := Fin.ext eh
      | (have eh : h.val = 3 := by omega); obtain rfl : h = 3 := Fin.ext eh
      | (have eh : h.val = 4 := by omega); obtain rfl : h = 4 := Fin.ext eh
      | (have eh : h.val = 5 := by omega); obtain rfl : h = 5 := Fin.ext eh
      | (have eh : h.val = 6 := by omega); obtain rfl : h = 6 := Fin.ext eh
      | (have eh : h.val = 7 := by omega); obtain rfl : h = 7 := Fin.ext eh
    idx_vars x
    obtain rfl : x4 = r := Fin.ext (by omega)
    obtain rfl : x5 = e := Fin.ext (by omega)
    first | rw [outAt_q] | rw [outAt_k] | rw [outAt_v]
    unfold Cert.Qkv.projAt
    try unfold Cert.Qkv.normAt
    pointwise [k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56]
    all_goals simp only [← Nat.add_assoc, Nat.reduceAdd]

/-- The result array of the kernel is the reference's result, over the kernel's own arguments. -/
theorem final (c : Dev nD) : (dats m 0 c).arrAt 4 (cfgs 0).N
    = Cert.Reference4Ideal.Read.val_main_v64 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 4 _ (by decide +kernel) fun t _ y => ?_
  blk_simp
  rw [after0_4]
  idx_vars y
  have hlt : t.val < 32 := t.isLt
  refine (out_at m c t y1 y2 y4 y5 _ rfl rfl rfl rfl).trans ?_
  refine Eq.trans ?_ (Eq.trans (Cert.Reference4Ideal.Qkv.res_at (m ((c : Thread nD τ).loc main_arg0)) (m ((c : Thread nD τ).loc main_arg1))
      (m ((c : Thread nD τ).loc main_arg2)) (m ((c : Thread nD τ).loc main_arg3)) (m ((c : Thread nD τ).loc main_arg4))
      ⟨t.val / 4, by omega⟩ y1 y2 0 ⟨t.val % 4 * 1024 + y4.val, by omega⟩ y5).symm ?_)
  · have hw := w_at m c t
    have hq := gq_at m c t
    have hk := gk_at m c t
    have hn := norm_at m c t y4
    have he : ∀ e : Fin 128, (y2.val * 128 + e.val) % 128 = e.val := fun e => by omega
    dsimp only at hw hq hk ⊢
    simp only [hw, hq, hk, hn, he, Fin.eta, Nat.mul_one, Nat.add_zero, Fin.val_zero]
  · blk_point [idx t]

end Cert.Kernel4Ideal.Qkv

end
-- ==== Proof.Qkv.Spec5.lean ====
module

public import proofs.«01_k».proof.Proof.Gen.Reference5Ideal.Read
public import proofs.«01_k».proof.Proof.Qkv.Point
public import Idealize.ShloMosaic.Lib.Pipeline.ValueKit

@[expose] public section

set_option maxRecDepth 16384

noncomputable section

open Idealize.ShloMosaic Idealize.ShloMosaic.TcCoe Idealize.SL.Sem

namespace Cert.Reference5Ideal.Qkv

open Cert.Reference5Ideal Cert.Reference5Ideal.Read

variable (x0 : FVec Ideal S8x4096x1024 .f32) (x1 : FVec Ideal S2x3x1024 .f32) (x2 : FVec Ideal S1x1024x9216 .f32)
  (x3 x4 : FVec Ideal S1x3x128 .f32)

/-- The group's columns of the weights. -/
def colAt (k : Fin 1024) (f : Fin 3072) : EReal := x2 (ix3 0 k ⟨1 * 3072 + f.val, by omega⟩)

/-- The three projections, point by point. -/
theorem proj_at (b : Fin 8) (s : Fin 4096) (j : Fin 3) (h : Fin 8) (e : Fin 128) :
    val_main_v19 (F := Ideal) x0 x1 x2 (ix5 b s j h e)
      = Cert.Qkv.projAt (fun k => val_main_v14 (F := Ideal) x0 x1 (ix3 b s k)) (colAt x2) j h e := by
  unfold Cert.Qkv.projAt colAt
  pointwise [val_main_v19, val_main_v18, val_main_v17, val_main_v16, val_main_v15]
  all_goals simp only [Nat.add_assoc]

/-- The queries: normalised per head, with the gain and the scale. -/
theorem q_at (b : Fin 8) (s : Fin 4096) (h : Fin 8) (e : Fin 128) :
    val_main_v38 (F := Ideal) x0 x1 x2 x3 (ix4 b s h e)
      = Cert.Qkv.normAt (fun e => val_main_v19 (F := Ideal) x0 x1 x2 (ix5 b s 0 h e))
          (x3 (ix3 0 1 e) * Ideal.ofBits .f32 1035273459#32) e := by
  unfold Cert.Qkv.normAt
  rw [← mul_assoc]
  pointwise [val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_cst_2, val_main_cst_3, val_main_cst_4, val_main_cst_5]

/-- The keys: normalised per head, with the gain. -/
theorem k_at (b : Fin 8) (s : Fin 4096) (h : Fin 8) (e : Fin 128) :
    val_main_v55 (F := Ideal) x0 x1 x2 x4 (ix4 b s h e)
      = Cert.Qkv.normAt (fun e => val_main_v19 (F := Ideal) x0 x1 x2 (ix5 b s 1 h e)) (x4 (ix3 0 1 e)) e := by
  unfold Cert.Qkv.normAt
  pointwise [val_main_v55, val_main_v54, val_main_v53, val_main_v52, val_main_v51, val_main_v50, val_main_v49, val_main_v48, val_main_v47, val_main_v46, val_main_v45, val_main_v44, val_main_v43, val_main_v42, val_main_v41, val_main_v40, val_main_v39, val_main_cst_6, val_main_cst_7, val_main_cst_8]

/-- The values: the third projection as it is. -/
theorem v_at (b : Fin 8) (s : Fin 4096) (h : Fin 8) (e : Fin 128) :
    val_main_v57 (F := Ideal) x0 x1 x2 (ix4 b s h e) = val_main_v19 (F := Ideal) x0 x1 x2 (ix5 b s 2 h e) := by
  pointwise [val_main_v57, val_main_v56]

/-- The unit piece of each part holds it at that place. -/
theorem piece_at (b : Fin 8) (z : Fin 1) (s : Fin 4096) (h : Fin 8) (e : Fin 128) :
    val_main_v58 (F := Ideal) x0 x1 x2 x3 (ix5 b z s h e) = val_main_v38 (F := Ideal) x0 x1 x2 x3 (ix4 b s h e)
    ∧ val_main_v59 (F := Ideal) x0 x1 x2 x4 (ix5 b z s h e) = val_main_v55 (F := Ideal) x0 x1 x2 x4 (ix4 b s h e)
    ∧ val_main_v60 (F := Ideal) x0 x1 x2 (ix5 b z s h e) = val_main_v57 (F := Ideal) x0 x1 x2 (ix4 b s h e) := by
  refine ⟨?_, ?_, ?_⟩
  · rw [val_main_v58_apply]
    congr 1
    funext a
    match a with
    | ⟨0, _⟩ => rfl
    | ⟨1, _⟩ => rfl
    | ⟨2, _⟩ => rfl
    | ⟨3, _⟩ => rfl
  · rw [val_main_v59_apply]
    congr 1
    funext a
    match a with
    | ⟨0, _⟩ => rfl
    | ⟨1, _⟩ => rfl
    | ⟨2, _⟩ => rfl
    | ⟨3, _⟩ => rfl
  · rw [val_main_v60_apply]
    congr 1
    funext a
    match a with
    | ⟨0, _⟩ => rfl
    | ⟨1, _⟩ => rfl
    | ⟨2, _⟩ => rfl
    | ⟨3, _⟩ => rfl

/-- The queries, keys and values side by side. -/
theorem stack_at (b : Fin 8) (j : Fin 3) (s : Fin 4096) (h : Fin 8) (e : Fin 128) :
    val_main_v61 (F := Ideal) x0 x1 x2 x3 x4 (ix5 b j s h e)
      = Cert.Qkv.outAt (fun k => val_main_v14 (F := Ideal) x0 x1 (ix3 b s k)) (colAt x2)
          (fun e => x3 (ix3 0 1 e) * Ideal.ofBits .f32 1035273459#32) (fun e => x4 (ix3 0 1 e)) j h e := by
  have hq := q_at x0 x1 x2 x3 b s h e
  have hk := k_at x0 x1 x2 x4 b s h e
  have hv := v_at x0 x1 x2 b s h e
  simp only [proj_at] at hq hk hv
  unfold val_main_v61
  concat_tiles i hj
  all_goals
    have hi : i = ix5 b (i 1) s h e := by
      funext a
      match a with
      | ⟨0, _⟩ => exact Fin.ext hj0
      | ⟨1, _⟩ => rfl
      | ⟨2, _⟩ => exact Fin.ext hj2
      | ⟨3, _⟩ => exact Fin.ext hj3
      | ⟨4, _⟩ => exact Fin.ext hj4
    rw [hi]
  · obtain rfl : j = 0 := Fin.ext hj
    exact ((piece_at x0 x1 x2 x3 x4 b (i 1) s h e).1).trans hq
  · obtain rfl : j = 1 := Fin.ext hj
    exact ((piece_at x0 x1 x2 x3 x4 b (i 1) s h e).2.1).trans hk
  · obtain rfl : j = 2 := Fin.ext hj
    exact ((piece_at x0 x1 x2 x3 x4 b (i 1) s h e).2.2).trans hv

/-- The result: stream `r`'s row `s` is the row `s * 4 + r` of the group's projections. -/
theorem res_at (b : Fin 8) (j : Fin 3) (h : Fin 8) (r : Fin 4) (s : Fin 1024) (e : Fin 128) :
    val_main_v64 (F := Ideal) x0 x1 x2 x3 x4 (ix6 b j h r s e)
      = Cert.Qkv.outAt (fun k => val_main_v14 (F := Ideal) x0 x1 (ix3 b ⟨s.val * 4 + r.val, by omega⟩ k)) (colAt x2)
          (fun e => x3 (ix3 0 1 e) * Ideal.ofBits .f32 1035273459#32) (fun e => x4 (ix3 0 1 e)) j h e := by
  rw [← stack_at]
  rw [val_main_v64_apply, val_main_v63_apply]
  have hi : idx_main_v63 (ix6 b j h r s e) = ix6 b j s r h e := by
    funext a
    match a with
    | ⟨0, _⟩ => rfl
    | ⟨1, _⟩ => rfl
    | ⟨2, _⟩ => rfl
    | ⟨3, _⟩ => rfl
    | ⟨4, _⟩ => rfl
    | ⟨5, _⟩ => rfl
  rw [hi]
  show val_main_v62 (F := Ideal) x0 x1 x2 x3 x4 (ix6 b j s r h e) = _
  pointwise [val_main_v62]

end Cert.Reference5Ideal.Qkv

end
-- ==== Proof.Qkv.Kernel5.lean ====
module

public import proofs.«01_k».proof.Proof.Gen.Kernel5Ideal.Frame
public import Idealize.ShloMosaic.Lib.Pipeline.ValueKit
public import Idealize.ShloMosaic.Lib.Pointwise
public import Idealize.ShloMosaic.Lib.Claim
public import proofs.«01_k».proof.Proof.Qkv.Spec5

@[expose] public section

set_option maxRecDepth 16384

noncomputable section

open Idealize.ShloMosaic Idealize.ShloMosaic.TcCoe Idealize.SL.Sem
open Idealize.ShloMosaic.Pipeline (Dat)

namespace Cert.Kernel5Ideal.Qkv

open Cert.Kernel5Ideal Cert.Kernel5Ideal.Gen

variable (m : (ℓ : Loc nD τ sig) → Buf (Elt Ideal) ℓ)

/-- Which block each window shows at a grid point: the rows go with the point, the rest stays. -/
theorem idx : ∀ t : Fin cfg0.N, win0_0.index t = ![t.val, 0] ∧ win0_1.index t = ![0, 0]
    ∧ win0_2.index t = ![0, 1] ∧ win0_3.index t = ![0, 0]
    ∧ win0_4.index t = ![t.val / 4, 0, 0, 0, t.val % 4, 0] :=
  (by decide +kernel : ∀ t : Fin grid0.N, _)

/-- The rows the products read are the reference's normalised rows. -/
theorem norm_at (c : Dev nD) (t : Fin cfg0.N) (r k : Fin 1024) :
    k0_pay2 (iblk m c 0 t) (iblk m c 1 t) (ix2 r k)
      = Cert.Reference5Ideal.Read.val_main_v14 (F := Ideal) (m ((c : Thread nD τ).loc main_arg0)) (m ((c : Thread nD τ).loc main_arg1))
          (ix3 ⟨t.val / 4, by have := t.isLt; have h : cfg0.N = 32 := rfl; omega⟩ ⟨t.val % 4 * 1024 + r.val, by omega⟩ k) := by
  open Cert.Reference5Ideal.Read in
  pointwise [k0_pay2, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  blk_point [iblk, V, idx t]

/-- The block of the weights is the group's columns. -/
theorem w_at (c : Dev nD) (t : Fin cfg0.N) (k : Fin 1024) (f : Fin 3072) :
    (show FVec Ideal S1024x3072 .bf16 from iblk m c 2 t) (ix2 k f)
      = Cert.Reference5Ideal.Qkv.colAt (m ((c : Thread nD τ).loc main_arg2)) k f := by
  unfold Cert.Reference5Ideal.Qkv.colAt
  blk_point [iblk, V, idx t]

/-- The first row of gains is the queries' gain, once per head, with the scale. -/
theorem gq_at (c : Dev nD) (t : Fin cfg0.N) (f : Fin 1024) :
    (show FVec Ideal S2x1024 .f32 from iblk m c 3 t) (ix2 0 f)
      = (show FVec Ideal S1x3x128 .f32 from m ((c : Thread nD τ).loc main_arg3)) (ix3 0 1 ⟨f.val % 128, by omega⟩) * Ideal.ofBits .f32 1035273459#32 := by
  have h : (show FVec Ideal S2x1024 .f32 from iblk m c 3 t) (ix2 0 f) = (show FVec Ideal S2x1024 .f32 from V m c main_v14) (ix2 0 f) := by
    blk_point [iblk, idx t]
  rw [h]
  dsimp only [V]
  entry_read
  pointwise

/-- The second row of gains is the keys' gain, once per head. -/
theorem gk_at (c : Dev nD) (t : Fin cfg0.N) (f : Fin 1024) :
    (show FVec Ideal S2x1024 .f32 from iblk m c 3 t) (ix2 1 f)
      = (m ((c : Thread nD τ).loc main_arg4)) (ix3 0 1 ⟨f.val % 128, by omega⟩) := by
  have h : (show FVec Ideal S2x1024 .f32 from iblk m c 3 t) (ix2 1 f) = (show FVec Ideal S2x1024 .f32 from V m c main_v14) (ix2 1 f) := by
    blk_point [iblk, idx t]
  rw [h]
  dsimp only [V]
  entry_read
  pointwise

theorem outAt_q (x : Fin 1024 → EReal) (w : Fin 1024 → Fin 3072 → EReal) (gq gk : Fin 128 → EReal) (h : Fin 8) (e : Fin 128) :
    Cert.Qkv.outAt x w gq gk 0 h e = Cert.Qkv.normAt (Cert.Qkv.projAt x w 0 h) (gq e) e := rfl

theorem outAt_k (x : Fin 1024 → EReal) (w : Fin 1024 → Fin 3072 → EReal) (gq gk : Fin 128 → EReal) (h : Fin 8) (e : Fin 128) :
    Cert.Qkv.outAt x w gq gk 1 h e = Cert.Qkv.normAt (Cert.Qkv.projAt x w 1 h) (gk e) e := rfl

theorem outAt_v (x : Fin 1024 → EReal) (w : Fin 1024 → Fin 3072 → EReal) (gq gk : Fin 128 → EReal) (h : Fin 8) (e : Fin 128) :
    Cert.Qkv.outAt x w gq gk 2 h e = Cert.Qkv.projAt x w 2 h e := rfl

set_option maxHeartbeats 4000000 in
/-- What the call stores at a place of its block, over the block's own rows, weights and gains. -/
theorem out_at (c : Dev nD) (t : Fin cfg0.N) (j : Fin 3) (h : Fin 8) (q : Fin 4) (r : Fin 256) (e : Fin 128) (y : S1x3x8x4x256x128.Idx)
    (y1 : (y 1).val = j.val) (y2 : (y 2).val = h.val) (y3 : (y 3).val = q.val) (y4 : (y 4).val = r.val) (y5 : (y 5).val = e.val) :
    outsAt0 m c t y = Cert.Qkv.outAt (fun k => k0_pay2 (iblk m c 0 t) (iblk m c 1 t) (ix2 ⟨r.val * 4 + q.val, by omega⟩ k))
      (fun k f => (show FVec Ideal S1024x3072 .bf16 from iblk m c 2 t) (ix2 k f))
      (fun e => (show FVec Ideal S2x1024 .f32 from iblk m c 3 t) (ix2 0 ⟨h.val * 128 + e.val, by omega⟩))
      (fun e => (show FVec Ideal S2x1024 .f32 from iblk m c 3 t) (ix2 1 ⟨h.val * 128 + e.val, by omega⟩)) j h e := by
  unfold outsAt0
  frame_out
  generalize iblk m c 0 t = X
  generalize iblk m c 1 t = N
  generalize iblk m c 2 t = W
  generalize iblk m c 3 t = G
  generalize hL : ([_, _, _, _, _, _, _, _] : List (View.Piece (Elt Ideal) S8x1024x128 .f32)) = L
  have hrow : ∀ (r : LoadRect S8x1024x128) (x : r.shape.Idx) (a b : Fin 1024), (r.idx x 1).val = a.val →
      (r.idx x 0).val * 128 + (r.idx x 2).val = b.val →
      (View.whole cc0_scratch1).readCov L r x = k0_pay2 X N (ix2 a b) := by
    intro r x a b h1 h2
    subst hL
    rw [View.readCov_eq_canon _ _ _ (fun j => View.cover_of_tiled_head _ _ _ (by rfl) _)]
    show View.canon _ (r.idx x) = _
    generalize r.idx x = i at h1 h2
    canon_tiles z hz
    all_goals idx_vars z
    all_goals pointwise [k0_pay3, k0_pay4, k0_pay5, k0_pay6, k0_pay7, k0_pay8, k0_pay9, k0_pay10, k0_pay11]
    all_goals exact congrArg₂ (fun u v => k0_pay2 X N (ix2 u v)) (Fin.ext (by omega)) (Fin.ext (by dsimp only; omega))
  generalize hH : View.readCov (Val := Elt Ideal) (View.whole cc0_scratch0) _ _ = H
  have hHat : ∀ (q : Fin 4) (s : Fin 256) (k : Fin 1024),
      H (ix2 ⟨q.val * 256 + s.val, by omega⟩ k) = k0_pay2 X N (ix2 ⟨s.val * 4 + q.val, by omega⟩ k) := by
    intro q s k
    subst hH
    rw [View.readCov_eq_canon _ _ _ (fun j => View.cover_of_tiled_head _ _ _ (by rfl) _)]
    show View.canon _ _ = _
    generalize hi : LoadRect.idx _ _ = i
    have i0 : (i 0).val = q.val * 256 + s.val := by rw [← hi]; simp
    have i1 : (i 1).val = k.val := by rw [← hi]; simp
    clear hi hL
    canon_tiles z hz
    all_goals idx_vars z
    all_goals pointwise [k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50]
    all_goals exact hrow _ _ _ _ (by dsimp [LoadRect.idx]; omega) (by dsimp [LoadRect.idx]; omega)
  clear hH hL hrow
  rw [show (fun k => k0_pay2 X N (ix2 ⟨r.val * 4 + q.val, by omega⟩ k)) = fun k => H (ix2 ⟨q.val * 256 + r.val, by omega⟩ k) from
    funext fun k => (hHat q r k).symm]
  clear hHat
  canon_tiles x hx
  all_goals
    first
      | (have ej : j.val = 0 := by omega); obtain rfl : j = 0 := Fin.ext ej
      | (have ej : j.val = 1 := by omega); obtain rfl : j = 1 := Fin.ext ej
      | (have ej : j.val = 2 := by omega); obtain rfl : j = 2 := Fin.ext ej
    first
      | (have eh : h.val = 0 := by omega); obtain rfl : h = 0 := Fin.ext eh
      | (have eh : h.val = 1 := by omega); obtain rfl : h = 1 := Fin.ext eh
      | (have eh : h.val = 2 := by omega); obtain rfl : h = 2 := Fin.ext eh
      | (have eh : h.val = 3 := by omega); obtain rfl : h = 3 := Fin.ext eh
      | (have eh : h.val = 4 := by omega); obtain rfl : h = 4 := Fin.ext eh
      | (have eh : h.val = 5 := by omega); obtain rfl : h = 5 := Fin.ext eh
      | (have eh : h.val = 6 := by omega); obtain rfl : h = 6 := Fin.ext eh
      | (have eh : h.val = 7 := by omega); obtain rfl : h = 7 := Fin.ext eh
    first
      | (have eq : q.val = 0 := by omega); obtain rfl : q = 0 := Fin.ext eq
      | (have eq : q.val = 1 := by omega); obtain rfl : q = 1 := Fin.ext eq
      | (have eq : q.val = 2 := by omega); obtain rfl : q = 2 := Fin.ext eq
      | (have eq : q.val = 3 := by omega); obtain rfl : q = 3 := Fin.ext eq
    idx_vars x
    obtain rfl : x4 = r := Fin.ext (by omega)
    obtain rfl : x5 = e := Fin.ext (by omega)
    first | rw [outAt_q] | rw [outAt_k] | rw [outAt_v]
    unfold Cert.Qkv.projAt
    try unfold Cert.Qkv.normAt
    pointwise [k0_pay1, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204]
    all_goals simp only [← Nat.add_assoc, Nat.reduceAdd]

/-- The result array of the kernel is the reference's result, over the kernel's own arguments. -/
theorem final (c : Dev nD) : (dats m 0 c).arrAt 4 (cfgs 0).N
    = Cert.Reference5Ideal.Read.val_main_v64 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 4 _ (by decide +kernel) fun t _ y => ?_
  blk_simp
  rw [after0_4]
  idx_vars y
  have hlt : t.val < 32 := t.isLt
  refine (out_at m c t y1 y2 y3 y4 y5 _ rfl rfl rfl rfl rfl).trans ?_
  refine Eq.trans ?_ (Eq.trans (Cert.Reference5Ideal.Qkv.res_at (m ((c : Thread nD τ).loc main_arg0)) (m ((c : Thread nD τ).loc main_arg1))
      (m ((c : Thread nD τ).loc main_arg2)) (m ((c : Thread nD τ).loc main_arg3)) (m ((c : Thread nD τ).loc main_arg4))
      ⟨t.val / 4, by omega⟩ y1 y2 y3 ⟨t.val % 4 * 256 + y4.val, by omega⟩ y5).symm ?_)
  · have hw := w_at m c t
    have hq := gq_at m c t
    have hk := gk_at m c t
    have hn := norm_at m c t ⟨y4.val * 4 + y3.val, by omega⟩
    have he : ∀ e : Fin 128, (y2.val * 128 + e.val) % 128 = e.val := fun e => by omega
    have hr : t.val % 4 * 1024 + (y4.val * 4 + y3.val) = (t.val % 4 * 256 + y4.val) * 4 + y3.val := by omega
    dsimp only at hw hq hk hn ⊢
    simp only [hw, hq, hk, hn, he, hr, Fin.eta, Nat.mul_one, Nat.add_zero, Fin.val_zero]
  · blk_point [idx t]

end Cert.Kernel5Ideal.Qkv

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.KernelIdeal.Value
public import proofs.«01_k».proof.Proof.Gen.Kernel2Ideal.Value
public import proofs.«01_k».proof.Proof.Gen.ReferenceIdeal.Run
public import proofs.«01_k».proof.Proof.Gen.ReferenceIdeal.Read
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Pre_softmax_stats
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Gen.Reference5Ideal.Read
public import proofs.«01_k».proof.Proof.Attn.Kernel
public import proofs.«01_k».proof.Proof.Ffn.Kernel
public import proofs.«01_k».proof.Proof.Merge.Kernel
public import proofs.«01_k».proof.Proof.Merge.Pre
public import Idealize.ShloMosaic.Lib.Claim
public import Idealize.ShloMosaic.Adequacy
public import Idealize.ShloMosaic.Init
public import proofs.«01_k».proof.Proof.Qkv.Kernel
public import proofs.«01_k».proof.Proof.Qkv.Kernel5

@[expose] public section

set_option maxRecDepth 16384

noncomputable section

namespace Cert.Proof

open Idealize.ShloMosaic Idealize.SL.Sem

/-- The attention's reference runs and leaves its argument and every counter as they were. -/
theorem frame_R : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The feed-forward's reference likewise. -/
theorem frame_R2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The merge's reference likewise. -/
theorem frame_R3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The first projection's reference likewise. -/
theorem frame_R4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The second projection's reference likewise. -/
theorem frame_R5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The attention kernel's two results are the reference's. -/
theorem attention : Cert.algebraic_KernelIdeal_ReferenceIdeal := by
  pair_intro
  · run_from Cert.KernelIdeal.Value.run_blocks m g
  · run_from Cert.ReferenceIdeal.Value.run (F := Ideal) m' g'
    · rw [Cert.ReferenceIdeal.Read.val_main_v70_eq, hagree c]
      exact (Cert.KernelIdeal.Attn.final5 m c).symm
    · rw [Cert.ReferenceIdeal.Read.val_main_v71_eq, hagree c]
      exact (Cert.KernelIdeal.Attn.final6 m c).symm

/-- The feed-forward kernel's result is the reference's. -/
theorem feed_forward : Cert.algebraic_Kernel2Ideal_Reference2Ideal := by
  pair_intro
  · run_from Cert.Kernel2Ideal.Gen.run_main m g
  · run_from Cert.Reference2Ideal.Value.run (F := Ideal) m' g'
    rw [Cert.Reference2Ideal.Read.val_main_v28_eq, (hagree c).1, (hagree c).2.1, (hagree c).2.2.1, (hagree c).2.2.2]
    exact (Cert.Kernel2Ideal.Ffn.final m c).symm

/-- What the precondition says of the statistics the merge kernel reads. -/
theorem finite_stats (m : (ℓ : Loc Cert.Kernel3Ideal.nD Cert.Kernel3Ideal.τ Cert.Kernel3Ideal.sig) → Buf (Elt Ideal) ℓ)
    (h : Cert.Pre_Kernel3Ideal_softmax_stats m) (c : Dev Cert.Kernel3Ideal.nD) : Cert.Kernel3Ideal.Merge.Finite m c :=
  ⟨Cert.Reference3Ideal.Merge.finite _ _ _ _ _ _ _ _ _ _ _ (h c).1, Cert.Reference3Ideal.Merge.positive _ _ _ _ _ _ _ _ _ _ _ (h c).2⟩

/-- Under the precondition the merge kernel's result is the reference's. -/
theorem merge : Cert.algebraic_Kernel3Ideal_Reference3Ideal_pre_softmax_stats := by
  pair_intro
  · run_from Cert.Kernel3Ideal.Value.run_blocks m g
  · run_from Cert.Reference3Ideal.Value.run (F := Ideal) m' g'
    obtain ⟨h0, h1, h2, h3, h4, h5, h6, h7, h8, h9, h10⟩ := hagree c
    rw [← h10]
    refine (Cert.Reference3Ideal.Read.val_main_v68_eq (F := Ideal) (StableHlo.launchContents m' c)).trans ?_
    show Cert.Reference3Ideal.Read.val_main_v68 (F := Ideal)
      (m' (c.tc.loc Cert.Reference3Ideal.main_arg0))
      (m' (c.tc.loc Cert.Reference3Ideal.main_arg1))
      (m' (c.tc.loc Cert.Reference3Ideal.main_arg2))
      (m' (c.tc.loc Cert.Reference3Ideal.main_arg3))
      (m' (c.tc.loc Cert.Reference3Ideal.main_arg4))
      (m' (c.tc.loc Cert.Reference3Ideal.main_arg5))
      (m' (c.tc.loc Cert.Reference3Ideal.main_arg6))
      (m' (c.tc.loc Cert.Reference3Ideal.main_arg7))
      (m' (c.tc.loc Cert.Reference3Ideal.main_arg8))
      (m' (c.tc.loc Cert.Reference3Ideal.main_arg9))
      (m' (c.tc.loc Cert.Reference3Ideal.main_arg10)) = _
    rw [h0, h1, h2, h3, h4, h5, h6, h7, h8, h9, h10]
    exact (Cert.Kernel3Ideal.Merge.final m c (finite_stats m hpre c)).symm

/-- The first projection kernel's result is the reference's. -/
theorem projections4 : Cert.algebraic_Kernel4Ideal_Reference4Ideal := by
  pair_intro
  · run_from Cert.Kernel4Ideal.Value.run_blocks m g
  · run_from Cert.Reference4Ideal.Value.run (F := Ideal) m' g'
    obtain ⟨h0, h1, h2, h3, h4⟩ := hagree c
    rw [Cert.Reference4Ideal.Read.val_main_v64_eq, h0, h1, h2, h3, h4]
    exact (Cert.Kernel4Ideal.Qkv.final m c).symm

/-- The second projection kernel's result is the reference's. -/
theorem projections5 : Cert.algebraic_Kernel5Ideal_Reference5Ideal := by
  pair_intro
  · run_from Cert.Kernel5Ideal.Value.run_blocks m g
  · run_from Cert.Reference5Ideal.Value.run (F := Ideal) m' g'
    obtain ⟨h0, h1, h2, h3, h4⟩ := hagree c
    rw [Cert.Reference5Ideal.Read.val_main_v64_eq, h0, h1, h2, h3, h4]
    exact (Cert.Kernel5Ideal.Qkv.final m c).symm

/-- Everything the certificate claims. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, Cert.Pre_softmax_stats.Gen.facts,
    fun m ρ _ => Cert.Kernel.Gen.frame m ρ, fun m ρ _ => Cert.KernelIdeal.Gen.frame m ρ, frame_R,
    fun m ρ _ => Cert.Kernel2.Gen.frame m ρ, fun m ρ _ => Cert.Kernel2Ideal.Gen.frame m ρ, frame_R2,
    fun m ρ _ => Cert.Kernel3.Gen.frame m ρ, fun m ρ _ => Cert.Kernel3Ideal.Gen.frame m ρ, fun m ρ _ => Cert.Kernel3Ideal.Gen.frame m ρ,
    frame_R3, fun m ρ _ => frame_R3 m ρ trivial,
    fun m ρ _ => Cert.Kernel4.Gen.frame m ρ, fun m ρ _ => Cert.Kernel4Ideal.Gen.frame m ρ, frame_R4,
    fun m ρ _ => Cert.Kernel5.Gen.frame m ρ, fun m ρ _ => Cert.Kernel5Ideal.Gen.frame m ρ, frame_R5,
    IdealRules.named_const.statement Cert.KernelIdeal.κ "mask" .f32 0xF149F2CA#32 ⊥ rfl, attention, trivial, feed_forward, trivial, merge,
    trivial, projections4, trivial, projections5⟩

end Cert.Proof

end
